-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8388608 : Shape := ⟨1, ![8388608]⟩
abbrev S2x2 : Shape := ⟨2, ![2, 2]⟩
abbrev S4x1 : Shape := ⟨2, ![4, 1]⟩
abbrev S1x4x1x1 : Shape := ⟨4, ![1, 4, 1, 1]⟩
abbrev S1x4x16x1 : Shape := ⟨4, ![1, 4, 16, 1]⟩
abbrev S4x16 : Shape := ⟨2, ![4, 16]⟩
abbrev S2x8192 : Shape := ⟨2, ![2, 8192]⟩
abbrev S2x262144 : Shape := ⟨2, ![2, 262144]⟩
abbrev S_ : Shape := ⟨0, ![]⟩
abbrev S1x16 : Shape := ⟨2, ![1, 16]⟩
abbrev S16 : Shape := ⟨1, ![16]⟩
abbrev S1x262144 : Shape := ⟨2, ![1, 262144]⟩
abbrev S262144 : Shape := ⟨1, ![262144]⟩
abbrev S1x8192 : Shape := ⟨2, ![1, 8192]⟩
abbrev S8192 : Shape := ⟨1, ![8192]⟩

abbrev nBuf : Table → Nat
  | .hbm => 7
  | .shared => 1
  | .local .scVector .vmem => 5
  | _ => 0

abbrev bufTy : (tb : Table) → Fin (nBuf tb) → BufTy
  | .hbm, ⟨0, _⟩ => ⟨S8388608, .f32⟩
  | .hbm, ⟨1, _⟩ => ⟨S2x2, .f32⟩
  | .hbm, ⟨2, _⟩ => ⟨S4x1, .f32⟩
  | .hbm, ⟨3, _⟩ => ⟨S1x4x1x1, .f32⟩
  | .hbm, ⟨4, _⟩ => ⟨S1x4x16x1, .f32⟩
  | .hbm, ⟨5, _⟩ => ⟨S4x16, .f32⟩
  | .hbm, ⟨6, _⟩ => ⟨S8388608, .f32⟩
  | .shared, ⟨0, _⟩ => ⟨S2x262144, .f32⟩
  | .local .scVector .vmem, ⟨0, _⟩ => ⟨S4x16, .f32⟩
  | .local .scVector .vmem, ⟨1, _⟩ => ⟨S2x8192, .f32⟩
  | .local .scVector .vmem, ⟨2, _⟩ => ⟨S2x8192, .f32⟩
  | .local .scVector .vmem, ⟨3, _⟩ => ⟨S2x8192, .f32⟩
  | .local .scVector .vmem, ⟨4, _⟩ => ⟨S2x8192, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v3_scv : Ref sig .scVector := ⟨.hbm, 5, rfl⟩
abbrev main_v4_scv : Ref sig .scVector := ⟨.hbm, 6, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32_4 : BitVec 32 := 0#32
  let v16 : BitVec 1 := Scalar.cmpi .eq arg1 c0_i32_4
  let v17 : BitVec 32 := Scalar.extui v16
  let c0_i32_5 : BitVec 32 := 0#32
  let v18 : BitVec 1 := Scalar.cmpi .ne v17 c0_i32_5
  v18

def k0_off1 (i : grid0.Coords) : Fin 1 → Nat :=
  let arg0 : BitVec 32 := BitVec.ofNat 32 (i 0).val
  let c2097152_i32 : BitVec 32 := 2097152#32
  let v15 : BitVec 32 := Scalar.muli arg0 c2097152_i32
  let c0_i32_334 : BitVec 32 := 0#32
  let v502 : BitVec 32 := Scalar.addi v15 c0_i32_334
  ![v502.toNat]
def k0_off2 (i : grid0.Coords) (c4194304_i32 : BitVec 32) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v14 : BitVec 32 := Scalar.muli v1 c65536_i32
  let v19 : BitVec 32 := Scalar.addi c4194304_i32 v14
  let v20 : BitVec 32 := Scalar.addi v19 c0_i32_6
  ![v20.toNat]
@[reducible] def k0_t1_loop : Scf.Loop 32 :=
  let c0_i32_33 : BitVec 32 := 0#32
  let c512_i32 : BitVec 32 := 512#32
  let v63 : BitVec 32 := Scalar.addi c0_i32_33 c512_i32
  let c1_i32_34 : BitVec 32 := 1#32
  ⟨c0_i32_33, v63, c1_i32_34⟩
def k0_off3 (k0_t1 : Fin k0_t1_loop.trips) : Fin 1 → Nat :=
  let c0_i32_335 : BitVec 32 := 0#32
  let c0_i32_33 : BitVec 32 := 0#32
  let c1_i32_34 : BitVec 32 := 1#32
  let arg19 : BitVec 32 := Scf.iv c0_i32_33 c1_i32_34 k0_t1
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond2 (i : grid0.Coords) : BitVec 1 :=
  let arg1 : BitVec 32 := BitVec.ofNat 32 (i 1).val
  let c0_i32_55 : BitVec 32 := 0#32
  let v96 : BitVec 1 := Scalar.cmpi .eq arg1 c0_i32_55
  let v97 : BitVec 32 := Scalar.extui v96
  let c0_i32_56 : BitVec 32 := 0#32
  let v98 : BitVec 1 := Scalar.cmpi .ne v97 c0_i32_56
  v98

def k0_off4 (i : grid0.Coords) (c262144_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c262144_i32
  ![v502.toNat]
@[reducible] def k0_t2_loop : Scf.Loop 32 :=
  let c0_i32_67 : BitVec 32 := 0#32
  let c512_i32_68 : BitVec 32 := 512#32
  let v111 : BitVec 32 := Scalar.addi c0_i32_67 c512_i32_68
  let c1_i32_69 : BitVec 32 := 1#32
  ⟨c0_i32_67, v111, c1_i32_69⟩
def k0_off5 (k0_t2 : Fin k0_t2_loop.trips) : Fin 1 → Nat :=
  let c0_i32_335 : BitVec 32 := 0#32
  let c0_i32_67 : BitVec 32 := 0#32
  let c1_i32_69 : BitVec 32 := 1#32
  let arg19 : BitVec 32 := Scf.iv c0_i32_67 c1_i32_69 k0_t2
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond3 (i : grid0.Coords) : BitVec 1 :=
  let arg1 : BitVec 32 := BitVec.ofNat 32 (i 1).val
  let c0_i32_90 : BitVec 32 := 0#32
  let v144 : BitVec 1 := Scalar.cmpi .eq arg1 c0_i32_90
  let v145 : BitVec 32 := Scalar.extui v144
  let c0_i32_91 : BitVec 32 := 0#32
  let v146 : BitVec 1 := Scalar.cmpi .ne v145 c0_i32_91
  v146

def k0_off6 (i : grid0.Coords) (c0_i32_334 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c0_i32_334
  ![v502.toNat]
@[reducible] def k0_t3_loop : Scf.Loop 32 :=
  let c0_i32_108 : BitVec 32 := 0#32
  let c512_i32_109 : BitVec 32 := 512#32
  let v171 : BitVec 32 := Scalar.addi c0_i32_108 c512_i32_109
  let c1_i32_110 : BitVec 32 := 1#32
  ⟨c0_i32_108, v171, c1_i32_110⟩
def k0_off7 (k0_t3 : Fin k0_t3_loop.trips) : Fin 1 → Nat :=
  let c0_i32_335 : BitVec 32 := 0#32
  let c0_i32_108 : BitVec 32 := 0#32
  let c1_i32_110 : BitVec 32 := 1#32
  let arg19 : BitVec 32 := Scf.iv c0_i32_108 c1_i32_110 k0_t3
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond4 (i : grid0.Coords) : BitVec 1 :=
  let arg1 : BitVec 32 := BitVec.ofNat 32 (i 1).val
  let c0_i32_131 : BitVec 32 := 0#32
  let v204 : BitVec 1 := Scalar.cmpi .eq arg1 c0_i32_131
  let v205 : BitVec 32 := Scalar.extui v204
  let c0_i32_132 : BitVec 32 := 0#32
  let v206 : BitVec 1 := Scalar.cmpi .ne v205 c0_i32_132
  v206

def k0_off8 (i : grid0.Coords) (c262144_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c262144_i32
  ![v502.toNat]
@[reducible] def k0_t4_loop : Scf.Loop 32 :=
  let c0_i32_149 : BitVec 32 := 0#32
  let c512_i32_150 : BitVec 32 := 512#32
  let v231 : BitVec 32 := Scalar.addi c0_i32_149 c512_i32_150
  let c1_i32_151 : BitVec 32 := 1#32
  ⟨c0_i32_149, v231, c1_i32_151⟩
def k0_off9 (k0_t4 : Fin k0_t4_loop.trips) : Fin 1 → Nat :=
  let c0_i32_335 : BitVec 32 := 0#32
  let c0_i32_149 : BitVec 32 := 0#32
  let c1_i32_151 : BitVec 32 := 1#32
  let arg19 : BitVec 32 := Scf.iv c0_i32_149 c1_i32_151 k0_t4
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond5 (i : grid0.Coords) : BitVec 1 :=
  let arg1 : BitVec 32 := BitVec.ofNat 32 (i 1).val
  let c0_i32_172 : BitVec 32 := 0#32
  let v264 : BitVec 1 := Scalar.cmpi .eq arg1 c0_i32_172
  let v265 : BitVec 32 := Scalar.extui v264
  let c0_i32_173 : BitVec 32 := 0#32
  let v266 : BitVec 1 := Scalar.cmpi .ne v265 c0_i32_173
  v266

def k0_off10 (i : grid0.Coords) (c524288_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c524288_i32
  ![v502.toNat]
@[reducible] def k0_t5_loop : Scf.Loop 32 :=
  let c0_i32_190 : BitVec 32 := 0#32
  let c512_i32_191 : BitVec 32 := 512#32
  let v291 : BitVec 32 := Scalar.addi c0_i32_190 c512_i32_191
  let c1_i32_192 : BitVec 32 := 1#32
  ⟨c0_i32_190, v291, c1_i32_192⟩
def k0_off11 (k0_t5 : Fin k0_t5_loop.trips) : Fin 1 → Nat :=
  let c0_i32_335 : BitVec 32 := 0#32
  let c0_i32_190 : BitVec 32 := 0#32
  let c1_i32_192 : BitVec 32 := 1#32
  let arg19 : BitVec 32 := Scf.iv c0_i32_190 c1_i32_192 k0_t5
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond6 (i : grid0.Coords) : BitVec 1 :=
  let arg1 : BitVec 32 := BitVec.ofNat 32 (i 1).val
  let c0_i32_213 : BitVec 32 := 0#32
  let v324 : BitVec 1 := Scalar.cmpi .eq arg1 c0_i32_213
  let v325 : BitVec 32 := Scalar.extui v324
  let c0_i32_214 : BitVec 32 := 0#32
  let v326 : BitVec 1 := Scalar.cmpi .ne v325 c0_i32_214
  v326

def k0_off12 (i : grid0.Coords) (c786432_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c786432_i32
  ![v502.toNat]
@[reducible] def k0_t6_loop : Scf.Loop 32 :=
  let c0_i32_231 : BitVec 32 := 0#32
  let c512_i32_232 : BitVec 32 := 512#32
  let v351 : BitVec 32 := Scalar.addi c0_i32_231 c512_i32_232
  let c1_i32_233 : BitVec 32 := 1#32
  ⟨c0_i32_231, v351, c1_i32_233⟩
def k0_off13 (k0_t6 : Fin k0_t6_loop.trips) : Fin 1 → Nat :=
  let c0_i32_335 : BitVec 32 := 0#32
  let c0_i32_231 : BitVec 32 := 0#32
  let c1_i32_233 : BitVec 32 := 1#32
  let arg19 : BitVec 32 := Scf.iv c0_i32_231 c1_i32_233 k0_t6
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond7 (i : grid0.Coords) : BitVec 1 :=
  let arg1 : BitVec 32 := BitVec.ofNat 32 (i 1).val
  let c0_i32_254 : BitVec 32 := 0#32
  let v384 : BitVec 1 := Scalar.cmpi .eq arg1 c0_i32_254
  let v385 : BitVec 32 := Scalar.extui v384
  let c0_i32_255 : BitVec 32 := 0#32
  let v386 : BitVec 1 := Scalar.cmpi .ne v385 c0_i32_255
  v386

def k0_off14 (i : grid0.Coords) (c1048576_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c1048576_i32
  ![v502.toNat]
@[reducible] def k0_t7_loop : Scf.Loop 32 :=
  let c0_i32_272 : BitVec 32 := 0#32
  let c512_i32_273 : BitVec 32 := 512#32
  let v411 : BitVec 32 := Scalar.addi c0_i32_272 c512_i32_273
  let c1_i32_274 : BitVec 32 := 1#32
  ⟨c0_i32_272, v411, c1_i32_274⟩
def k0_off15 (k0_t7 : Fin k0_t7_loop.trips) : Fin 1 → Nat :=
  let c0_i32_335 : BitVec 32 := 0#32
  let c0_i32_272 : BitVec 32 := 0#32
  let c1_i32_274 : BitVec 32 := 1#32
  let arg19 : BitVec 32 := Scf.iv c0_i32_272 c1_i32_274 k0_t7
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond8 (i : grid0.Coords) : BitVec 1 :=
  let arg1 : BitVec 32 := BitVec.ofNat 32 (i 1).val
  let c0_i32_286 : BitVec 32 := 0#32
  let v428 : BitVec 1 := Scalar.cmpi .eq arg1 c0_i32_286
  let v429 : BitVec 32 := Scalar.extui v428
  let c0_i32_287 : BitVec 32 := 0#32
  let v430 : BitVec 1 := Scalar.cmpi .ne v429 c0_i32_287
  v430

def k0_off16 (i : grid0.Coords) (c1310720_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c1310720_i32
  ![v502.toNat]
@[reducible] def k0_t8_loop : Scf.Loop 32 :=
  let c0_i32_304 : BitVec 32 := 0#32
  let c512_i32_305 : BitVec 32 := 512#32
  let v455 : BitVec 32 := Scalar.addi c0_i32_304 c512_i32_305
  let c1_i32_306 : BitVec 32 := 1#32
  ⟨c0_i32_304, v455, c1_i32_306⟩
def k0_off17 (k0_t8 : Fin k0_t8_loop.trips) : Fin 1 → Nat :=
  let c0_i32_335 : BitVec 32 := 0#32
  let c0_i32_304 : BitVec 32 := 0#32
  let c1_i32_306 : BitVec 32 := 1#32
  let arg19 : BitVec 32 := Scf.iv c0_i32_304 c1_i32_306 k0_t8
  let c1_i32_334 : BitVec 32 := 1#32
  let v502 : BitVec 32 := Scalar.muli arg19 c1_i32_334
  let v503 : BitVec 32 := Scalar.addi c0_i32_335 v502
  let c16_i32 : BitVec 32 := 16#32
  let v504 : BitVec 32 := Scalar.muli v503 c16_i32
  let v507 : Index := Scalar.indexCast v504
  ![v507.toNat]
def k0_cond9 (i : grid0.Coords) : BitVec 1 :=
  let arg1 : BitVec 32 := BitVec.ofNat 32 (i 1).val
  let c0_i32_318 : BitVec 32 := 0#32
  let v472 : BitVec 1 := Scalar.cmpi .eq arg1 c0_i32_318
  let v473 : BitVec 32 := Scalar.extui v472
  let c0_i32_319 : BitVec 32 := 0#32
  let v474 : BitVec 1 := Scalar.cmpi .ne v473 c0_i32_319
  v474

def k0_off18 (i : grid0.Coords) (c1572864_i32 : BitVec 32) : Fin 1 → Nat :=
  let arg0 : BitVec 32 := BitVec.ofNat 32 (i 0).val
  let c2097152_i32 : BitVec 32 := 2097152#32
  let v15 : BitVec 32 := Scalar.muli arg0 c2097152_i32
  let v502 : BitVec 32 := Scalar.addi v15 c1572864_i32
  ![v502.toNat]
def k0_cond10 (i : grid0.Coords) : BitVec 1 :=
  let arg1 : BitVec 32 := BitVec.ofNat 32 (i 1).val
  let c0_i32_332 : BitVec 32 := 0#32
  let v499 : BitVec 1 := Scalar.cmpi .eq arg1 c0_i32_332
  let v500 : BitVec 32 := Scalar.extui v499
  let c0_i32_333 : BitVec 32 := 0#32
  let v501 : BitVec 1 := Scalar.cmpi .ne v500 c0_i32_333
  v501

def k0_off19 (i : grid0.Coords) : Fin 1 → Nat :=
  let arg0 : BitVec 32 := BitVec.ofNat 32 (i 0).val
  let c2097152_i32 : BitVec 32 := 2097152#32
  let v15 : BitVec 32 := Scalar.muli arg0 c2097152_i32
  let c1835008_i32 : BitVec 32 := 1835008#32
  let v502 : BitVec 32 := Scalar.addi v15 c1835008_i32
  ![v502.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S2x2 : Shape := ⟨2, ![2, 2]⟩
abbrev S2097152 : Shape := ⟨1, ![2097152]⟩
abbrev S_ : Shape := ⟨0, ![]⟩
abbrev S2097152x1 : Shape := ⟨2, ![2097152, 1]⟩
abbrev S1 : Shape := ⟨1, ![1]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S2x2, .f32⟩
  | .hbm, ⟨2, _⟩ => ⟨S2097152, .i32⟩
  | .hbm, ⟨3, _⟩ => ⟨S_, .i32⟩
  | .hbm, ⟨4, _⟩ => ⟨S2097152, .i32⟩
  | .hbm, ⟨5, _⟩ => ⟨S2097152, .i32⟩
  | .hbm, ⟨6, _⟩ => ⟨S_, .i32⟩
  | .hbm, ⟨7, _⟩ => ⟨S2097152, .i32⟩
  | .hbm, ⟨8, _⟩ => ⟨S2097152, .i32⟩
  | .hbm, ⟨9, _⟩ => ⟨S_, .i32⟩
  | .hbm, ⟨10, _⟩ => ⟨S2097152, .i32⟩
  | .hbm, ⟨11, _⟩ => ⟨S2097152, .i32⟩
  | .hbm, ⟨12, _⟩ => ⟨S2097152, .i32⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i32⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S_, .i32⟩
  | .hbm, ⟨24, _⟩ => ⟨S2097152, .i32⟩
  | .hbm, ⟨25, _⟩ => ⟨S2097152, .i32⟩
  | .hbm, ⟨26, _⟩ => ⟨S_, .i32⟩
  | .hbm, ⟨27, _⟩ => ⟨S2097152, .i32⟩
  | .hbm, ⟨28, _⟩ => ⟨S2097152, .i32⟩
  | .hbm, ⟨29, _⟩ => ⟨S_, .i32⟩
  | .hbm, ⟨30, _⟩ => ⟨S2097152, .i32⟩
  | .hbm, ⟨31, _⟩ => ⟨S2097152, .i1⟩
  | .hbm, ⟨32, _⟩ => ⟨S_, .i32⟩
  | .hbm, ⟨33, _⟩ => ⟨S2097152, .i32⟩
  | .hbm, ⟨34, _⟩ => ⟨S2097152, .i32⟩
  | .hbm, ⟨35, _⟩ => ⟨S2097152, .i32⟩
  | .hbm, ⟨36, _⟩ => ⟨S2097152x1, .i32⟩
  | .hbm, ⟨37, _⟩ => ⟨S1, .i32⟩
  | .hbm, ⟨38, _⟩ => ⟨S_, .i32⟩
  | .hbm, ⟨39, _⟩ => ⟨S2097152x1, .i32⟩
  | .hbm, ⟨40, _⟩ => ⟨S2097152x1, .i1⟩
  | .hbm, ⟨41, _⟩ => ⟨S1x1, .i32⟩
  | .hbm, ⟨42, _⟩ => ⟨S2097152x1, .i32⟩
  | .hbm, ⟨43, _⟩ => ⟨S2097152x1, .i1⟩
  | .hbm, ⟨44, _⟩ => ⟨S2097152x1, .i1⟩
  | .hbm, ⟨45, _⟩ => ⟨S_, .i1⟩
  | .hbm, ⟨46, _⟩ => ⟨S2097152, .i1⟩
  | .hbm, ⟨47, _⟩ => ⟨S2097152, .f32⟩
  | .hbm, ⟨48, _⟩ => ⟨S_, .f32⟩
  | .hbm, ⟨49, _⟩ => ⟨S2097152, .f32⟩
  | .hbm, ⟨50, _⟩ => ⟨S2097152, .f32⟩
  | .hbm, ⟨51, _⟩ => ⟨S_, .i32⟩
  | .hbm, ⟨52, _⟩ => ⟨S2097152, .i32⟩
  | .hbm, ⟨53, _⟩ => ⟨S2097152, .i1⟩
  | .hbm, ⟨54, _⟩ => ⟨S_, .i32⟩
  | .hbm, ⟨55, _⟩ => ⟨S2097152, .i32⟩
  | .hbm, ⟨56, _⟩ => ⟨S2097152, .i32⟩
  | .hbm, ⟨57, _⟩ => ⟨S2097152, .i32⟩
  | .hbm, ⟨58, _⟩ => ⟨S2097152x1, .i32⟩
  | .hbm, ⟨59, _⟩ => ⟨S1, .i32⟩
  | .hbm, ⟨60, _⟩ => ⟨S_, .i32⟩
  | .hbm, ⟨61, _⟩ => ⟨S2097152x1, .i32⟩
  | .hbm, ⟨62, _⟩ => ⟨S2097152x1, .i1⟩
  | .hbm, ⟨63, _⟩ => ⟨S1x1, .i32⟩
  | .hbm, ⟨64, _⟩ => ⟨S2097152x1, .i32⟩
  | .hbm, ⟨65, _⟩ => ⟨S2097152x1, .i1⟩
  | .hbm, ⟨66, _⟩ => ⟨S2097152x1, .i1⟩
  | .hbm, ⟨67, _⟩ => ⟨S_, .i1⟩
  | .hbm, ⟨68, _⟩ => ⟨S2097152, .i1⟩
  | .hbm, ⟨69, _⟩ => ⟨S2097152, .f32⟩
  | .hbm, ⟨70, _⟩ => ⟨S_, .f32⟩
  | .hbm, ⟨71, _⟩ => ⟨S2097152, .f32⟩
  | .hbm, ⟨72, _⟩ => ⟨S2097152, .f32⟩
  | .hbm, ⟨73, _⟩ => ⟨S1x1, .f32⟩
  | .hbm, ⟨74, _⟩ => ⟨S_, .f32⟩
  | .hbm, ⟨75, _⟩ => ⟨S2097152, .f32⟩
  | .hbm, ⟨76, _⟩ => ⟨S2097152, .f32⟩
  | .hbm, ⟨77, _⟩ => ⟨S1x1, .f32⟩
  | .hbm, ⟨78, _⟩ => ⟨S_, .f32⟩
  | .hbm, ⟨79, _⟩ => ⟨S2097152, .f32⟩
  | .hbm, ⟨80, _⟩ => ⟨S2097152, .f32⟩
  | .hbm, ⟨81, _⟩ => ⟨S2097152, .f32⟩
  | .hbm, ⟨82, _⟩ => ⟨S1x1, .f32⟩
  | .hbm, ⟨83, _⟩ => ⟨S_, .f32⟩
  | .hbm, ⟨84, _⟩ => ⟨S2097152, .f32⟩
  | .hbm, ⟨85, _⟩ => ⟨S2097152, .f32⟩
  | .hbm, ⟨86, _⟩ => ⟨S1x1, .f32⟩
  | .hbm, ⟨87, _⟩ => ⟨S_, .f32⟩
  | .hbm, ⟨88, _⟩ => ⟨S2097152, .f32⟩
  | .hbm, ⟨89, _⟩ => ⟨S2097152, .f32⟩
  | .hbm, ⟨90, _⟩ => ⟨S2097152, .f32⟩
  | .hbm, ⟨91, _⟩ => ⟨S_, .i32⟩
  | .hbm, ⟨92, _⟩ => ⟨S2097152, .i32⟩
  | .hbm, ⟨93, _⟩ => ⟨S2097152, .i1⟩
  | .hbm, ⟨94, _⟩ => ⟨S_, .i32⟩
  | .hbm, ⟨95, _⟩ => ⟨S2097152, .i32⟩
  | .hbm, ⟨96, _⟩ => ⟨S2097152, .i32⟩
  | .hbm, ⟨97, _⟩ => ⟨S2097152, .i32⟩
  | .hbm, ⟨98, _⟩ => ⟨S2097152x1, .i32⟩
  | .hbm, ⟨99, _⟩ => ⟨S8388608, .f32⟩
  | .hbm, ⟨100, _⟩ => ⟨S_, .i32⟩
  | .hbm, ⟨101, _⟩ => ⟨S2097152, .i32⟩
  | .hbm, ⟨102, _⟩ => ⟨S2097152, .i1⟩
  | .hbm, ⟨103, _⟩ => ⟨S_, .i32⟩
  | .hbm, ⟨104, _⟩ => ⟨S2097152, .i32⟩
  | .hbm, ⟨105, _⟩ => ⟨S2097152, .i32⟩
  | .hbm, ⟨106, _⟩ => ⟨S2097152, .i32⟩
  | .hbm, ⟨107, _⟩ => ⟨S2097152x1, .i32⟩
  | .hbm, ⟨108, _⟩ => ⟨S8388608, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_c_6 : Ref sig .tc := ⟨.hbm, 26, rfl⟩
abbrev main_v17 : Ref sig .tc := ⟨.hbm, 27, rfl⟩
abbrev main_v18 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v19 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_c_7 : Ref sig .tc := ⟨.hbm, 91, rfl⟩
abbrev main_v39 : Ref sig .tc := ⟨.hbm, 92, rfl⟩
abbrev main_v40 : Ref sig .tc := ⟨.hbm, 93, rfl⟩
abbrev main_c_8 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_c_9 : Ref sig .tc := ⟨.hbm, 100, rfl⟩
abbrev main_v46 : Ref sig .tc := ⟨.hbm, 101, rfl⟩
abbrev main_v47 : Ref sig .tc := ⟨.hbm, 102, rfl⟩
abbrev main_c_10 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩

abbrev nD : Nat := 1
abbrev τ : Topo := Topo.v7x

variable {F : FTy → Type} [FloatOps F]
-- ==== Proof.Launch.lean ====
/-
  The kernel's launch as the launch theorem sees it: the configuration, the side conditions over the four launch
  semaphores, the resource algebra (the handshakes' rounds and the transfers' counters), and a vector subcore's own
  semaphores and buffers taken apart into the ones its task names and the rest. Everything is over any float values `F`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## One vector subcore -/

abbrev cV (L : grid0.Coords) : Fin τ.nSC := (L 0).castLE hcore0
abbrev jV (L : grid0.Coords) : Fin τ.nSub := (L 1).castLE hsub0
/-- The vector subcore `L` names on device `d`. -/
abbrev VT (d : Dev nD) (L : grid0.Coords) : Thread nD τ := V d (cV L) (jV L)

/-- The nine DMA semaphores of the task, in the pool's order: two for each direction of the blend's chunks (in, out), two
    for each direction of the copy's, and the one of the scoped copy of the coefficients. -/
abbrev dcell (d : Dev nD) (L : grid0.Coords) (k : Fin 9) : GSem nD τ sig := (VT d L, .dma (k : DmaSem sig))

variable (d : Dev nD) (L : grid0.Coords)

theorem dcell_mem (k : Fin 9) : dcell d L k ∈ ownCells (VT d L) :=
  mem_ownCells.mpr ⟨rfl, (show ∀ s : DmaSem sig, (SemLoc.dma s : SemLoc sig).isScoped .scVector = true by decide) _⟩

/-- The nine semaphores at zero, one by one, in the task's spelling. -/
abbrev cells0 : sProp 𝕄 :=
  iprop(semVal (VT d L, SemLoc.dma cc0_scratch6.sem) 0 ∗ semVal (VT d L, SemLoc.dma cc0_scratch7.sem) 0
    ∗ semVal (VT d L, SemLoc.dma cc0_scratch8.sem) 0 ∗ semVal (VT d L, SemLoc.dma cc0_scratch9.sem) 0
    ∗ semVal (VT d L, SemLoc.dma cc0_scratch10.sem) 0 ∗ semVal (VT d L, SemLoc.dma cc0_scratch11.sem) 0
    ∗ semVal (VT d L, SemLoc.dma cc0_scratch12.sem) 0 ∗ semVal (VT d L, SemLoc.dma cc0_scratch13.sem) 0
    ∗ semVal (VT d L, SemLoc.dma cc0_scoped0.sem) 0)

theorem ownSems0_V :
    (ownSems0 (VT d L) : sProp 𝕄)
      = iprop(cells0 d L ∗ bigSep (ownCells (VT d L) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      exact SemLoc.dma.inj this)]
  rw [show (Finset.univ : Finset (Fin 9)) = {0, 1, 2, 3, 4, 5, 6, 7, 8} by decide]
  iterate 8 rw [SparseCore.bigSep_insert' (by decide)]
  rw [bigSep_singleton]
  rfl

/-- The five buffers of a vector subcore's memory the task names. -/
abbrev vmemRef (k : Fin 5) : DevRef τ sig := (Proc.scVector (cV L) (jV L)).devRef (⟨.vmem, k, rfl⟩ : Ref sig .scVector)

abbrev bufs0 : sProp 𝕄 :=
  iprop((∃ f, (VT d L).loc cc0_scratch0 ↦{fullShare} f) ∗ (∃ f, (VT d L).loc cc0_scratch1 ↦{fullShare} f)
    ∗ (∃ f, (VT d L).loc cc0_scratch2 ↦{fullShare} f) ∗ (∃ f, (VT d L).loc cc0_scratch3 ↦{fullShare} f)
    ∗ (∃ f, (VT d L).loc cc0_scratch4 ↦{fullShare} f))

theorem ownBufs_V :
    (ownBufs (VT d L) : sProp 𝕄)
      = iprop(bufs0 d L ∗ bigSep (ownRefs (τ := τ) (.scVector (cV L) (jV L)) \ Finset.univ.image (vmemRef L))
          fun b => iprop(∃ f, ((d, b) : Loc nD τ sig) ↦{fullShare} f)) := by
  unfold SparseCore.Cfg.ownBufs
  rw [SparseCore.bigSep_sdiff_split' (t := Finset.univ.image (vmemRef L))
      (Finset.image_subset_iff.mpr fun k _ => SparseCore.Cfg.mem_ownRefs_of_owner rfl),
    SparseCore.bigSep_image_of_injOn (fun a _ b _ h => by
      have h' := Proc.devRef_injective _ h
      exact (show ∀ a b : Fin 5, (⟨.vmem, a, rfl⟩ : Ref sig .scVector) = ⟨.vmem, b, rfl⟩ → a = b by decide) a b h')]
  rw [show (Finset.univ : Finset (Fin 5)) = {0, 1, 2, 3, 4} by decide]
  iterate 4 rw [SparseCore.bigSep_insert' (by decide)]
  rw [bigSep_singleton]

end Cert.Proof.Gate
-- ==== Proof.Blend.lean ====
/-
  The blend loop. Each of the kernel's eight counted loops runs over one row of the staging buffers: sixteen lanes at a
  time it loads the two input rows and stores `v4 * a + v7 * b` and `v10 * a + v13 * b` into the two output rows. The loop
  is proved once, over any four row memrefs.
-/
module

public import proofs.«01_k».proof.Proof.Launch
public import Idealize.ShloMosaic.Lib.Writes
public import Idealize.ShloMosaic.Lib.Pipeline.Value

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The lane an element of a row falls on. -/
def lane (y : S8192.Idx) : S16.Idx := fun | ⟨0, _⟩ => ⟨(y 0).val % 16, Nat.mod_lt _ (by decide)⟩

/-- One row of results: coefficient rows `p`, `q` over inputs `a`, `b`. -/
def blend (p q : FVec F S16 .f32) (a b : Vec F S8192 .f32) : Vec F S8192 .f32 :=
  fun y => FloatOps.addf (FloatOps.mulf (p (lane y)) (a y)) (FloatOps.mulf (q (lane y)) (b y))

/-- The rectangle trip `k` accesses. -/
abbrev trip (k : Fin k0_t1_loop.trips) : Rect S8192 := Rect.unit (s := S8192) (k0_off3 k) S16.size (k0_off3_inb k)

/-- One trip's region, over any four rows. -/
def blendBody (i : grid0.Coords) (A0 A1 O0 O1 : Memref sig .scVector .vmem S8192 .f32) (v4 v7 v10 v13 : FVec F S16 .f32) :
    Fin k0_t1_loop.trips → Unit → Prog (TpuEff nD τ sig (Elt F) Λ₀ (.scVector ((i 0).castLE hcore0) ((i 1).castLE hsub0))) Unit :=
  fun k _ => do
    let a : Vec F S16 .f32 ← Prog.lift (.load A0 (trip k).toLoadRect (View.loadsAt_vmem h_S16))
    let b : Vec F S16 .f32 ← Prog.lift (.load A1 (trip k).toLoadRect (View.loadsAt_vmem h_S16))
    let _ : Vec F S16 .f32 ← Prog.lift (.load O0 (trip k).toLoadRect (View.loadsAt_vmem h_S16))
    Prog.lift (.store O0 (trip k) (k0_pay7 v4 v7 a b) Finset.univ (View.stores_vmem_bits_univ h_S16 rfl) (.inl rfl))
    let _ : Vec F S16 .f32 ← Prog.lift (.load O1 (trip k).toLoadRect (View.loadsAt_vmem h_S16))
    Prog.lift (.store O1 (trip k) (k0_pay8 v10 v13 a b) Finset.univ (View.stores_vmem_bits_univ h_S16 rfl) (.inl rfl))
    pure ⟨⟩

variable (d : Dev nD) (L : grid0.Coords)

/-- A row as a task holds it: by its own elements, at contents `f`. -/
abbrev held {s : Shape} {sp : Space} (A : Memref sig .scVector sp s .f32) (f : A.view.ty.Contents (Elt F)) : sProp 𝕄 :=
  A.view.loc (VT d L) ↦[A.view.set]{fullShare} f

theorem pay7_eq (p q : FVec F S16 .f32) (a b : Vec F S16 .f32) :
    k0_pay7 p q a b = fun l => FloatOps.addf (FloatOps.mulf (p l) (a l)) (FloatOps.mulf (q l) (b l)) := by
  unfold k0_pay7 k0_pay5 k0_pay6
  simp only [shapeCast_self]
  rfl

theorem pay8_eq (p q : FVec F S16 .f32) (a b : Vec F S16 .f32) : k0_pay8 p q a b = k0_pay7 p q a b := rfl

/-- What the first `k` trips leave in an output row. -/
def Done (k : Nat) (O : Memref sig .scVector .vmem S8192 .f32) (g : O.view.ty.Contents (Elt F)) (w : Vec F S8192 .f32) : Prop :=
  ∀ y : S8192.Idx, (y 0).val < 16 * k → O.view.read (Elt F) g y = w y

set_option maxHeartbeats 1000000 in
theorem blend_trip (A0 A1 O0 O1 : Memref sig .scVector .vmem S8192 .f32) (v4 v7 v10 v13 : FVec F S16 .f32)
    (fa : A0.view.ty.Contents (Elt F)) (fb : A1.view.ty.Contents (Elt F)) (g0 : O0.view.ty.Contents (Elt F)) (g1 : O1.view.ty.Contents (Elt F))
    (k : Fin k0_t1_loop.trips) :
    iprop(held d L A0 fa ∗ held d L A1 fb ∗ held d L O0 g0 ∗ held d L O1 g1)
      ⊢ wp frame (wpE (defs₀ (F := F)) 𝒱₀ (VT d L) none) Set.univ (blendBody L A0 A1 O0 O1 v4 v7 v10 v13 k ⟨⟩)
          (fun _ => iprop(held d L A0 fa ∗ held d L A1 fb
            ∗ held d L O0 ((O0.view.slice (trip k)).write (Elt F) g0 (k0_pay7 v4 v7 (A0.view.readAt (Elt F) (trip k).toLoadRect fa) (A1.view.readAt (Elt F) (trip k).toLoadRect fb)) Finset.univ)
            ∗ held d L O1 ((O1.view.slice (trip k)).write (Elt F) g1 (k0_pay8 v10 v13 (A0.view.readAt (Elt F) (trip k).toLoadRect fa) (A1.view.readAt (Elt F) (trip k).toLoadRect fb)) Finset.univ))) := by
  unfold blendBody
  iintro ⟨HA, HB, H0, H1⟩
  sl_exec
  sl_step
  isplitl [HA]; · iexact HA
  isplitl [HB]; · iexact HB
  isplitl [H0]; · iexact H0
  iexact H1

/-- The lane of element `x` of trip `k`'s rectangle is `x` itself. -/
theorem lane_trip (k : Fin k0_t1_loop.trips) (x : (trip k).shape.Idx) : lane ((trip k).emb x) = x := by
  funext a
  match a with
  | ⟨0, _⟩ =>
    apply Fin.ext
    have hx : (x 0).val < 16 := (x 0).isLt
    have h : (((trip k).emb x) 0).val = 16 * k.val + (x 0).val := by
      rw [Rect.emb_apply]
      simp [Rect.unit, k0_off3_eq]
    show (((trip k).emb x) 0).val % 16 = (x 0).val
    omega

/-- What a trip stores is the row of results on the trip's rectangle. -/
theorem pay_trip (A0 A1 : Memref sig .scVector .vmem S8192 .f32) (p q : FVec F S16 .f32)
    (fa : A0.view.ty.Contents (Elt F)) (fb : A1.view.ty.Contents (Elt F)) (k : Fin k0_t1_loop.trips) (x : (trip k).shape.Idx) :
    k0_pay7 p q (A0.view.readAt (Elt F) (trip k).toLoadRect fa) (A1.view.readAt (Elt F) (trip k).toLoadRect fb) x
      = blend p q (A0.view.read (Elt F) fa) (A1.view.read (Elt F) fb) ((trip k).emb x) := by
  rw [pay7_eq]
  unfold blend
  rw [lane_trip]
  rfl

theorem done_succ (O : Memref sig .scVector .vmem S8192 .f32) (g : O.view.ty.Contents (Elt F)) (w : Vec F S8192 .f32)
    (k : Fin k0_t1_loop.trips) (pay : Vec F S16 .f32) (h : Done k.val O g w) (hp : ∀ x, pay x = w ((trip k).emb x)) :
    Done (k.val + 1) O ((O.view.slice (trip k)).write (Elt F) g pay Finset.univ) w := by
  intro y hy
  by_cases hk : (y 0).val < 16 * k.val
  · rw [← h y hk]
    exact View.read_writes_cons_miss_of_axis O.view g ⟨trip k, pay⟩ [] y 0 (16 * k.val) 16
      (by show k0_off3 k 0 = _; rw [k0_off3_eq]; rfl) rfl rfl (.inl hk)
  · have hlt : (y 0).val - 16 * k.val < 16 := by omega
    let x : (trip k).shape.Idx := fun | ⟨0, _⟩ => ⟨(y 0).val - 16 * k.val, hlt⟩
    have hx : ∀ a, (y a).val = (trip k).off a + (trip k).stride a * (x a).val := by
      intro a
      match a with
      | ⟨0, _⟩ =>
        show (y 0).val = k0_off3 k 0 + 1 * ((y 0).val - 16 * k.val)
        rw [k0_off3_eq]
        show (y 0).val = 16 * k.val + 1 * ((y 0).val - 16 * k.val)
        omega
    rw [← (trip k).emb_eq_of_coords x y hx, ← hp x]
    exact View.read_writes_cons_emb O.view g (trip k) pay [] x

/-- The whole loop: the output rows end reading the two rows of results, the input rows as they were. -/
theorem wp_blend (A0 A1 O0 O1 : Memref sig .scVector .vmem S8192 .f32) (v4 v7 v10 v13 : FVec F S16 .f32)
    (fa : A0.view.ty.Contents (Elt F)) (fb : A1.view.ty.Contents (Elt F)) (g0 : O0.view.ty.Contents (Elt F)) (g1 : O1.view.ty.Contents (Elt F))
    {β : Type} (kk : Unit → Prog (TpuEff nD τ sig (Elt F) Λ₀ (.scVector ((L 0).castLE hcore0) ((L 1).castLE hsub0))) β) (Q : β → sProp 𝕄) :
    iprop(held d L A0 fa ∗ held d L A1 fb ∗ held d L O0 g0 ∗ held d L O1 g1)
      ⊢ iprop((∀ h0 h1, ⌜O0.view.read (Elt F) h0 = blend v4 v7 (A0.view.read (Elt F) fa) (A1.view.read (Elt F) fb)⌝
          -∗ ⌜O1.view.read (Elt F) h1 = blend v10 v13 (A0.view.read (Elt F) fa) (A1.view.read (Elt F) fb)⌝
          -∗ held d L A0 fa -∗ held d L A1 fb -∗ held d L O0 h0 -∗ held d L O1 h1
          -∗ wp frame (wpE (defs₀ (F := F)) 𝒱₀ (VT d L) none) Set.univ (kk ⟨⟩) Q)
        -∗ wp frame (wpE (defs₀ (F := F)) 𝒱₀ (VT d L) none) Set.univ
            (Scf.Loop.for k0_t1_loop k0_t1_ok ⟨⟩ (blendBody L A0 A1 O0 O1 v4 v7 v10 v13) >>= kk) Q) := by
  iintro ⟨HA, HB, H0, H1⟩ Hk
  iapply (Scf.wp_for_bind frame (wpE (defs₀ (F := F)) 𝒱₀ (VT d L) none) Set.univ _ _ _ k0_t1_ok ⟨⟩ (blendBody L A0 A1 O0 O1 v4 v7 v10 v13)
    (fun k _ => iprop(∃ h0 h1, ⌜Done k O0 h0 (blend v4 v7 (A0.view.read (Elt F) fa) (A1.view.read (Elt F) fb))⌝
      ∗ ⌜Done k O1 h1 (blend v10 v13 (A0.view.read (Elt F) fa) (A1.view.read (Elt F) fb))⌝
      ∗ held d L A0 fa ∗ held d L A1 fb ∗ held d L O0 h0 ∗ held d L O1 h1)) ?step) $$ [HA HB H0 H1]
  case step =>
    intro k acc
    iintro ⟨%h0, %h1, %hd0, %hd1, H⟩
    iapply (wp_wand_r _ _ _)
    isplitl [H]
    · iapply (blend_trip d L A0 A1 O0 O1 v4 v7 v10 v13 fa fb h0 h1 k); iexact H
    iintro %_ ⟨HA, HB, H0, H1⟩
    iexists _
    iexists ((O1.view.slice (trip k)).write (Elt F) h1 (k0_pay8 v10 v13 (A0.view.readAt (Elt F) (trip k).toLoadRect fa) (A1.view.readAt (Elt F) (trip k).toLoadRect fb)) Finset.univ)
    isplitr; · ipureintro; exact done_succ O0 h0 _ k _ hd0 (pay_trip A0 A1 v4 v7 fa fb k)
    isplitr
    · ipureintro
      exact done_succ O1 h1 _ k
        (k0_pay8 v10 v13 (A0.view.readAt (Elt F) (trip k).toLoadRect fa) (A1.view.readAt (Elt F) (trip k).toLoadRect fb)) hd1
        (pay_trip A0 A1 v10 v13 fa fb k)
    isplitl [HA]; · iexact HA
    isplitl [HB]; · iexact HB
    isplitl [H0]; · iexact H0
    iexact H1
  · iexists g0; iexists g1
    isplitr; · ipureintro; exact fun y hy => absurd hy (by omega)
    isplitr; · ipureintro; exact fun y hy => absurd hy (by omega)
    isplitl [HA]; · iexact HA
    isplitl [HB]; · iexact HB
    isplitl [H0]; · iexact H0
    iexact H1
  iintro %acc ⟨%h0, %h1, %hd0, %hd1, HA, HB, H0, H1⟩
  have full : ∀ y : S8192.Idx, (y 0).val < 16 * Scf.trips k0_t1_loop.lb k0_t1_loop.ub k0_t1_loop.st := fun y => by
    have h : Scf.trips k0_t1_loop.lb k0_t1_loop.ub k0_t1_loop.st = 512 := by decide
    have hy : (y 0).val < 8192 := (y 0).isLt
    omega
  iapply Hk $$ %h0 %h1 %(funext fun y => hd0 y (full y)) %(funext fun y => hd1 y (full y)) HA HB H0 H1

end Cert.Proof.Gate
-- ==== Proof.Tile.lean ====
/-
  The task of one vector subcore.
-/
module

public import proofs.«01_k».proof.Proof.Blend

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "xV" => (Memref.whole main_arg0_scv : Memref sig Kind.scVector Space.hbm S8388608 EltTy.f32)
local notation "uV" => (Memref.whole main_v3_scv : Memref sig Kind.scVector Space.hbm S4x16 EltTy.f32)
local notation "oV" => (Memref.whole main_v4_scv : Memref sig Kind.scVector Space.hbm S8388608 EltTy.f32)
local notation "uS" => (Memref.whole cc0_scratch0 : Memref sig Kind.scVector Space.vmem S4x16 EltTy.f32)
local notation "a0S" => (Memref.whole cc0_scratch1 : Memref sig Kind.scVector Space.vmem S2x8192 EltTy.f32)
local notation "a1S" => (Memref.whole cc0_scratch2 : Memref sig Kind.scVector Space.vmem S2x8192 EltTy.f32)
local notation "o0S" => (Memref.whole cc0_scratch3 : Memref sig Kind.scVector Space.vmem S2x8192 EltTy.f32)
local notation "o1S" => (Memref.whole cc0_scratch4 : Memref sig Kind.scVector Space.vmem S2x8192 EltTy.f32)
local notation "shS" => (Memref.whole cc0_scratch5 : Memref sig Kind.scVector Space.shared S2x262144 EltTy.f32)

variable (d : Dev nD) (L : grid0.Coords)

/-- A whole buffer as a task holds it, at share `q`. -/
abbrev wholeAt {s : Shape} {sp : Space} (A : Memref sig .scVector sp s .f32) (q : PosShare TreeShare) (f : A.view.ty.Contents (Elt F)) : sProp 𝕄 :=
  A.view.loc (VT d L) ↦{q} f

/-- A chunk of the blended half, at the offset the task computes from the words `a` and `b`. -/
abbrev chunk (A : Memref sig .scVector .hbm S8388608 .f32) (a b : BitVec 32) (h : ∀ ax, k0_off2 L a b ax + S8192.size ax ≤ S8388608.size ax) :
    Memref sig .scVector .hbm S8192 .f32 :=
  A.slice (Rect.unit (s := S8388608) (k0_off2 L a b) S8192.size h) (fun _ => rfl)

/-- A block of the copied half, at offset `o`. -/
abbrev block (A : Memref sig .scVector .hbm S8388608 .f32) (o : Fin 1 → Nat) (h : ∀ ax, o ax + S262144.size ax ≤ S8388608.size ax) :
    Memref sig .scVector .hbm S262144 .f32 :=
  A.slice (Rect.unit (s := S8388608) o S262144.size h) (fun _ => rfl)

/-- A row of a staging buffer, squeezed. -/
abbrev row (A : Memref sig .scVector .vmem S2x8192 .f32) (o : Fin 2 → Nat) (h : ∀ ax, o ax + S1x8192.size ax ≤ S2x8192.size ax) :
    Memref sig .scVector .vmem S8192 .f32 :=
  (A.slice (Rect.unit (s := S2x8192) o S1x8192.size h) (fun _ => rfl)).squeeze S8192 squeezes_S1x8192_S8192

/-- A row of the shared buffer, squeezed. -/
abbrev shRow (o : Fin 2 → Nat) (h : ∀ ax, o ax + S1x262144.size ax ≤ S2x262144.size ax) : Memref sig .scVector .shared S262144 .f32 :=
  ((shS).slice (Rect.unit (s := S2x262144) o S1x262144.size h) (fun _ => rfl)).squeeze S262144 squeezes_S1x262144_S262144

/-- The sixteen chunks of an array a task blends, each by its own elements, at contents `f`. -/
abbrev chunks (A : Memref sig .scVector .hbm S8388608 .f32) (f : A.view.ty.Contents (Elt F)) : sProp 𝕄 :=
  iprop(held d L (chunk L A 4194304#32 0#32 (k0_off2_inb L 0 0)) f ∗
    held d L (chunk L A 6291456#32 0#32 (k0_off2_inb L 1 0)) f ∗
    held d L (chunk L A 4194304#32 8192#32 (k0_off2_inb L 0 1)) f ∗
    held d L (chunk L A 6291456#32 8192#32 (k0_off2_inb L 1 1)) f ∗
    held d L (chunk L A 4194304#32 16384#32 (k0_off2_inb L 0 2)) f ∗
    held d L (chunk L A 6291456#32 16384#32 (k0_off2_inb L 1 2)) f ∗
    held d L (chunk L A 4194304#32 24576#32 (k0_off2_inb L 0 3)) f ∗
    held d L (chunk L A 6291456#32 24576#32 (k0_off2_inb L 1 3)) f ∗
    held d L (chunk L A 4194304#32 32768#32 (k0_off2_inb L 0 4)) f ∗
    held d L (chunk L A 6291456#32 32768#32 (k0_off2_inb L 1 4)) f ∗
    held d L (chunk L A 4194304#32 40960#32 (k0_off2_inb L 0 5)) f ∗
    held d L (chunk L A 6291456#32 40960#32 (k0_off2_inb L 1 5)) f ∗
    held d L (chunk L A 4194304#32 49152#32 (k0_off2_inb L 0 6)) f ∗
    held d L (chunk L A 6291456#32 49152#32 (k0_off2_inb L 1 6)) f ∗
    held d L (chunk L A 4194304#32 57344#32 (k0_off2_inb L 0 7)) f ∗
    held d L (chunk L A 6291456#32 57344#32 (k0_off2_inb L 1 7)) f)

/-- The eight blocks of the input tile zero copies. -/
abbrev blocksX (h : k0_cond1 L = 1#1) (f : (xV).view.ty.Contents (Elt F)) : sProp 𝕄 :=
  iprop(held d L (block xV (k0_off1 L) (k0_off1_inb L h)) f ∗
    held d L (block xV (k0_off4 L 262144#32) (k0_off4_inb L h 1)) f ∗
    held d L (block xV (k0_off6 L 524288#32) (k0_off6_inb L h 2)) f ∗
    held d L (block xV (k0_off8 L 786432#32) (k0_off8_inb L h 2)) f ∗
    held d L (block xV (k0_off10 L 1048576#32) (k0_off10_inb L h 2)) f ∗
    held d L (block xV (k0_off12 L 1310720#32) (k0_off12_inb L h 2)) f ∗
    held d L (block xV (k0_off14 L 1572864#32) (k0_off14_inb L h 2)) f ∗
    held d L (block xV (k0_off16 L 1835008#32) (k0_off16_inb L h 2)) f)

/-- The eight blocks of the output it writes. -/
abbrev blocksO (h : k0_cond1 L = 1#1) (f : (oV).view.ty.Contents (Elt F)) : sProp 𝕄 :=
  iprop(held d L (block oV (k0_off4 L 0#32) (k0_off4_inb L h 0)) f ∗
    held d L (block oV (k0_off6 L 262144#32) (k0_off6_inb L h 1)) f ∗
    held d L (block oV (k0_off8 L 524288#32) (k0_off8_inb L h 1)) f ∗
    held d L (block oV (k0_off10 L 786432#32) (k0_off10_inb L h 1)) f ∗
    held d L (block oV (k0_off12 L 1048576#32) (k0_off12_inb L h 1)) f ∗
    held d L (block oV (k0_off14 L 1310720#32) (k0_off14_inb L h 1)) f ∗
    held d L (block oV (k0_off16 L 1572864#32) (k0_off16_inb L h 1)) f ∗
    held d L (block oV (k0_off18 L 1835008#32) (k0_off18_inb L h 1)) f)

/-- The two rows of a staging buffer, whatever they hold. -/
abbrev rowsAny (A : Memref sig .scVector .vmem S2x8192 .f32) : sProp 𝕄 :=
  iprop((∃ f, held d L (row A ![0, 0] inb_S2x8192_S1x8192_0_0) f) ∗ (∃ f, held d L (row A ![1, 0] inb_S2x8192_S1x8192_1_0) f))

/-- The two rows of the shared buffer, whatever they hold. -/
abbrev sharedAny : sProp 𝕄 :=
  iprop((∃ f, held d L (shRow ![0, 0] inb_S2x262144_S1x262144_0_0) f) ∗ (∃ f, held d L (shRow ![1, 0] inb_S2x262144_S1x262144_1_0) f))

/-- What the first task of a core holds besides: the copied half of the input and of the output, and the shared buffer. -/
def zeroRes (X : (xV).view.ty.Contents (Elt F)) (f : (oV).view.ty.Contents (Elt F)) : sProp 𝕄 :=
  if h : k0_cond1 L = 1#1 then iprop(blocksX d L h X ∗ blocksO d L h f ∗ sharedAny d L) else iprop(emp)

theorem zeroRes_pos (h : k0_cond1 L = 1#1) (X : (xV).view.ty.Contents (Elt F)) (f : (oV).view.ty.Contents (Elt F)) :
    zeroRes d L X f = iprop(blocksX d L h X ∗ blocksO d L h f ∗ sharedAny d L) := dif_pos h

theorem zeroRes_neg (h : ¬ (k0_cond1 L = 1#1)) (X : (xV).view.ty.Contents (Elt F)) (f : (oV).view.ty.Contents (Elt F)) :
    zeroRes d L X f = iprop(emp) := dif_neg h

/-- Row `n` of the table of coefficients: one register. -/
def urow (n : Fin 4) (fu : S4x16.Idx → F .f32) : FVec F S16 .f32 := fun l => fu (fun | 0 => n | 1 => l 0)

/-- A view's elements held at contents that read the same are the same. -/
theorem held_of_read {s : Shape} {sp : Space} (A : Memref sig .scVector sp s .f32) (f g : A.view.ty.Contents (Elt F))
    (h : A.view.read (Elt F) f = A.view.read (Elt F) g) : held d L A f ⊢ held d L A g := by
  refine Entails.of_eq (pointsTo_congr fun i hi => ?_)
  obtain ⟨j, -, rfl⟩ := Finset.mem_map.mp hi
  have e := congrFun h j
  rw [View.read_apply, View.read_apply] at e
  exact (cast_inj _).mp e

/-- A store of a whole view reads back what was stored, whatever was stored before. -/
theorem read_writes_whole {s : Shape} {sp : Space} (A : Memref sig .scVector sp s .f32) (f : A.view.ty.Contents (Elt F))
    (p : (Rect.whole s).shape.Idx → F .f32) (l : List (View.Piece (Elt F) s .f32)) :
    A.view.read (Elt F) (A.view.writes (Elt F) f (⟨Rect.whole s, p⟩ :: l)) = p := by
  funext y
  exact View.read_writes_cons_hit A.view f (Rect.whole s) p l y y (Rect.emb_whole_apply s y)

/-- What the task loads of its copy of the table is a row of the table. -/
theorem pay_row (n : Fin 4) (o : Fin 2 → Nat) (h : ∀ a, o a + S1x16.size a ≤ S4x16.size a) (ho : o = ![n.val, 0])
    (f w : S4x16.Idx → F .f32) :
    shapeCast S16 ((uS).view.readAt (Elt F) (Rect.unit (s := S4x16) o S1x16.size h).toLoadRect ((uS).view.write (Elt F) f w Finset.univ)) shapeCasts_S1x16_S16
      = urow n w := by
  subst ho
  funext l
  refine (shapeCast_dropUnit_apply ![16] _ _ l).trans ?_
  refine (congrFun (View.read_write_univ (v := (uS).view) (Val := Elt F) f w) _).trans (congrArg w ?_)
  funext a
  match a with
  | 0 => exact Fin.ext (by simp [Rect.unit]; rfl)
  | 1 => exact Fin.ext (by simp [Rect.unit]; rfl)

/-- The blends of one pair of chunks: both output chunks of `Z` against the pair of chunks of `X`. -/
def BlendedAt (fu : S4x16.Idx → F .f32) (wz0 wz1 wx0 wx1 : Vec F S8192 .f32) [FloatOps F] : Prop :=
  wz0 = blend (urow 0 fu) (urow 1 fu) wx0 wx1 ∧ wz1 = blend (urow 2 fu) (urow 3 fu) wx0 wx1

/-- Contents `Z` of the output carry, in the chunks of this task, the two blends of the chunks of `X`. -/
def Blended (fu : S4x16.Idx → F .f32) (X : (xV).view.ty.Contents (Elt F)) (Z : (oV).view.ty.Contents (Elt F)) [FloatOps F] : Prop :=
  BlendedAt fu ((chunk L oV 4194304#32 0#32 (k0_off2_inb L 0 0)).view.read (Elt F) Z) ((chunk L oV 6291456#32 0#32 (k0_off2_inb L 1 0)).view.read (Elt F) Z)
    ((chunk L xV 4194304#32 0#32 (k0_off2_inb L 0 0)).view.read (Elt F) X) ((chunk L xV 6291456#32 0#32 (k0_off2_inb L 1 0)).view.read (Elt F) X) ∧
  BlendedAt fu ((chunk L oV 4194304#32 8192#32 (k0_off2_inb L 0 1)).view.read (Elt F) Z) ((chunk L oV 6291456#32 8192#32 (k0_off2_inb L 1 1)).view.read (Elt F) Z)
    ((chunk L xV 4194304#32 8192#32 (k0_off2_inb L 0 1)).view.read (Elt F) X) ((chunk L xV 6291456#32 8192#32 (k0_off2_inb L 1 1)).view.read (Elt F) X) ∧
  BlendedAt fu ((chunk L oV 4194304#32 16384#32 (k0_off2_inb L 0 2)).view.read (Elt F) Z) ((chunk L oV 6291456#32 16384#32 (k0_off2_inb L 1 2)).view.read (Elt F) Z)
    ((chunk L xV 4194304#32 16384#32 (k0_off2_inb L 0 2)).view.read (Elt F) X) ((chunk L xV 6291456#32 16384#32 (k0_off2_inb L 1 2)).view.read (Elt F) X) ∧
  BlendedAt fu ((chunk L oV 4194304#32 24576#32 (k0_off2_inb L 0 3)).view.read (Elt F) Z) ((chunk L oV 6291456#32 24576#32 (k0_off2_inb L 1 3)).view.read (Elt F) Z)
    ((chunk L xV 4194304#32 24576#32 (k0_off2_inb L 0 3)).view.read (Elt F) X) ((chunk L xV 6291456#32 24576#32 (k0_off2_inb L 1 3)).view.read (Elt F) X) ∧
  BlendedAt fu ((chunk L oV 4194304#32 32768#32 (k0_off2_inb L 0 4)).view.read (Elt F) Z) ((chunk L oV 6291456#32 32768#32 (k0_off2_inb L 1 4)).view.read (Elt F) Z)
    ((chunk L xV 4194304#32 32768#32 (k0_off2_inb L 0 4)).view.read (Elt F) X) ((chunk L xV 6291456#32 32768#32 (k0_off2_inb L 1 4)).view.read (Elt F) X) ∧
  BlendedAt fu ((chunk L oV 4194304#32 40960#32 (k0_off2_inb L 0 5)).view.read (Elt F) Z) ((chunk L oV 6291456#32 40960#32 (k0_off2_inb L 1 5)).view.read (Elt F) Z)
    ((chunk L xV 4194304#32 40960#32 (k0_off2_inb L 0 5)).view.read (Elt F) X) ((chunk L xV 6291456#32 40960#32 (k0_off2_inb L 1 5)).view.read (Elt F) X) ∧
  BlendedAt fu ((chunk L oV 4194304#32 49152#32 (k0_off2_inb L 0 6)).view.read (Elt F) Z) ((chunk L oV 6291456#32 49152#32 (k0_off2_inb L 1 6)).view.read (Elt F) Z)
    ((chunk L xV 4194304#32 49152#32 (k0_off2_inb L 0 6)).view.read (Elt F) X) ((chunk L xV 6291456#32 49152#32 (k0_off2_inb L 1 6)).view.read (Elt F) X) ∧
  BlendedAt fu ((chunk L oV 4194304#32 57344#32 (k0_off2_inb L 0 7)).view.read (Elt F) Z) ((chunk L oV 6291456#32 57344#32 (k0_off2_inb L 1 7)).view.read (Elt F) Z)
    ((chunk L xV 4194304#32 57344#32 (k0_off2_inb L 0 7)).view.read (Elt F) X) ((chunk L xV 6291456#32 57344#32 (k0_off2_inb L 1 7)).view.read (Elt F) X)

/-- Contents `Z` of the output carry, in the blocks of the first task of a core, the blocks of `X`. -/
def Copied (h : k0_cond1 L = 1#1) (X : (xV).view.ty.Contents (Elt F)) (Z : (oV).view.ty.Contents (Elt F)) : Prop :=
  ((block oV (k0_off4 L 0#32) (k0_off4_inb L h 0)).view.read (Elt F) Z = (block xV (k0_off1 L) (k0_off1_inb L h)).view.read (Elt F) X) ∧
  ((block oV (k0_off6 L 262144#32) (k0_off6_inb L h 1)).view.read (Elt F) Z = (block xV (k0_off4 L 262144#32) (k0_off4_inb L h 1)).view.read (Elt F) X) ∧
  ((block oV (k0_off8 L 524288#32) (k0_off8_inb L h 1)).view.read (Elt F) Z = (block xV (k0_off6 L 524288#32) (k0_off6_inb L h 2)).view.read (Elt F) X) ∧
  ((block oV (k0_off10 L 786432#32) (k0_off10_inb L h 1)).view.read (Elt F) Z = (block xV (k0_off8 L 786432#32) (k0_off8_inb L h 2)).view.read (Elt F) X) ∧
  ((block oV (k0_off12 L 1048576#32) (k0_off12_inb L h 1)).view.read (Elt F) Z = (block xV (k0_off10 L 1048576#32) (k0_off10_inb L h 2)).view.read (Elt F) X) ∧
  ((block oV (k0_off14 L 1310720#32) (k0_off14_inb L h 1)).view.read (Elt F) Z = (block xV (k0_off12 L 1310720#32) (k0_off12_inb L h 2)).view.read (Elt F) X) ∧
  ((block oV (k0_off16 L 1572864#32) (k0_off16_inb L h 1)).view.read (Elt F) Z = (block xV (k0_off14 L 1572864#32) (k0_off14_inb L h 2)).view.read (Elt F) X) ∧
  ((block oV (k0_off18 L 1835008#32) (k0_off18_inb L h 1)).view.read (Elt F) Z = (block xV (k0_off16 L 1835008#32) (k0_off16_inb L h 2)).view.read (Elt F) X)

/-- A view stored whole is held at any contents that read what was stored. -/
theorem held_stored {s : Shape} {sp : Space} (A : Memref sig .scVector sp s .f32) (f Z : A.view.ty.Contents (Elt F))
    (p : (Rect.whole s).shape.Idx → F .f32) (h : A.view.read (Elt F) Z = p) :
    held d L A (A.view.writes (Elt F) f [⟨Rect.whole s, p⟩]) ⊢ held d L A Z :=
  held_of_read d L A _ _ ((read_writes_whole A f p []).trans h.symm)

/-- Every wait recorded in `W'` is one of `W` or one of the task's own. -/
def Waited (W W' : Waits sig (HIx 1)) : Prop := ∀ p ∈ W', p ∈ W ∨ p.2 = none

theorem Waited.refl (W : Waits sig (HIx 1)) : Waited W W := fun _ h => .inl h

theorem Waited.insert {W W' : Waits sig (HIx 1)} (h : Waited W W') (s : SemLoc sig) : Waited W (insert (s, (default : HIx 1)) W') := by
  intro p hp
  rcases Finset.mem_insert.mp hp with hp | hp
  · exact .inr (hp ▸ rfl)
  · exact h p hp

variable [FloatOps F]

/-- The blending loop over two input rows filled by whole copies: the output rows end reading the blends of what was copied. -/
theorem wp_row (A0 A1 O0 O1 : Memref sig .scVector .vmem S8192 .f32) (v4 v7 v10 v13 : FVec F S16 .f32)
    (fa : A0.view.ty.Contents (Elt F)) (fb : A1.view.ty.Contents (Elt F)) (p q : (Rect.whole S8192).shape.Idx → F .f32)
    (la lb : List (View.Piece (Elt F) S8192 .f32)) (g0 : O0.view.ty.Contents (Elt F)) (g1 : O1.view.ty.Contents (Elt F))
    {β : Type} (kk : Unit → Prog (TpuEff nD τ sig (Elt F) Λ₀ (.scVector ((L 0).castLE hcore0) ((L 1).castLE hsub0))) β) (Q : β → sProp 𝕄) :
    iprop(held d L A0 (A0.view.writes (Elt F) fa (⟨Rect.whole S8192, p⟩ :: la)) ∗ held d L A1 (A1.view.writes (Elt F) fb (⟨Rect.whole S8192, q⟩ :: lb))
        ∗ held d L O0 g0 ∗ held d L O1 g1)
      ⊢ iprop((∀ h0 h1, ⌜O0.view.read (Elt F) h0 = blend v4 v7 p q⌝ -∗ ⌜O1.view.read (Elt F) h1 = blend v10 v13 p q⌝
          -∗ held d L A0 (A0.view.writes (Elt F) fa (⟨Rect.whole S8192, p⟩ :: la)) -∗ held d L A1 (A1.view.writes (Elt F) fb (⟨Rect.whole S8192, q⟩ :: lb))
          -∗ held d L O0 h0 -∗ held d L O1 h1
          -∗ wp frame (wpE (defs₀ (F := F)) 𝒱₀ (VT d L) none) Set.univ (kk ⟨⟩) Q)
        -∗ wp frame (wpE (defs₀ (F := F)) 𝒱₀ (VT d L) none) Set.univ
            (Scf.Loop.for k0_t1_loop k0_t1_ok ⟨⟩ (blendBody L A0 A1 O0 O1 v4 v7 v10 v13) >>= kk) Q) := by
  have h := wp_blend d L A0 A1 O0 O1 v4 v7 v10 v13 (A0.view.writes (Elt F) fa (⟨Rect.whole S8192, p⟩ :: la))
    (A1.view.writes (Elt F) fb (⟨Rect.whole S8192, q⟩ :: lb)) g0 g1 kk Q
  rw [read_writes_whole A0 fa p la, read_writes_whole A1 fb q lb] at h
  exact h

theorem pay1_row (f w : S4x16.Idx → F .f32) :
    k0_pay1 ((uS).view.readAt (Elt F) (Rect.unit (s := S4x16) ![0, 0] S1x16.size inb_S4x16_S1x16_0_0).toLoadRect ((uS).view.write (Elt F) f w Finset.univ))
      = urow 0 w := pay_row 0 _ _ rfl f w

theorem pay2_row (f w : S4x16.Idx → F .f32) :
    k0_pay2 ((uS).view.readAt (Elt F) (Rect.unit (s := S4x16) ![1, 0] S1x16.size inb_S4x16_S1x16_1_0).toLoadRect ((uS).view.write (Elt F) f w Finset.univ))
      = urow 1 w := pay_row 1 _ _ rfl f w

theorem pay3_row (f w : S4x16.Idx → F .f32) :
    k0_pay3 ((uS).view.readAt (Elt F) (Rect.unit (s := S4x16) ![2, 0] S1x16.size inb_S4x16_S1x16_2_0).toLoadRect ((uS).view.write (Elt F) f w Finset.univ))
      = urow 2 w := pay_row 2 _ _ rfl f w

theorem pay4_row (f w : S4x16.Idx → F .f32) :
    k0_pay4 ((uS).view.readAt (Elt F) (Rect.unit (s := S4x16) ![3, 0] S1x16.size inb_S4x16_S1x16_3_0).toLoadRect ((uS).view.write (Elt F) f w Finset.univ))
      = urow 3 w := pay_row 3 _ _ rfl f w

set_option maxRecDepth 100000 in
set_option maxHeartbeats 8000000 in
/-- The task: from its chunks of the input it leaves its chunks of the output at `Z`, and the first task of a core its blocks besides. -/
theorem tile_core (O : CellTallies nD τ sig (HIx 1)) (W : Waits sig (HIx 1)) (q : PosShare TreeShare) (fu : S4x16.Idx → F .f32)
    (X : (xV).view.ty.Contents (Elt F)) (Y Z : (oV).view.ty.Contents (Elt F)) (hZ : Blended L fu X Z) (hC : ∀ h, Copied L h X Z) :
    iprop(wholeAt d L uV q fu ∗ chunks d L xV X ∗ chunks d L oV Y ∗ zeroRes d L X Y
        ∗ (∃ f, wholeAt d L uS fullShare f) ∗ rowsAny d L a0S ∗ rowsAny d L a1S ∗ rowsAny d L o0S ∗ rowsAny d L o1S
        ∗ cells0 d L ∗ Transfers.MayWaits (VT d L) (default : HIx 1) O ∗ owes (VT d L) O W)
      ⊢ wp frame (wpE (defs₀ (F := F)) 𝒱₀ (VT d L) none) Set.univ
          (cc0__cgate L xV (Memref.isWhole_whole _) uV (Memref.isWhole_whole _) oV (Memref.isWhole_whole _) uS (Memref.isWhole_whole _)
            a0S (Memref.isWhole_whole _) a1S (Memref.isWhole_whole _) o0S (Memref.isWhole_whole _) o1S (Memref.isWhole_whole _) shS (Memref.isWhole_whole _)
            cc0_scratch6 cc0_scratch7 cc0_scratch8 cc0_scratch9 cc0_scratch10 cc0_scratch11 cc0_scratch12 cc0_scratch13 cc0_scoped0)
          fun _ => iprop(wholeAt d L uV q fu ∗ chunks d L xV X ∗ chunks d L oV Z ∗ zeroRes d L X Z
            ∗ (∃ f, wholeAt d L uS fullShare f) ∗ rowsAny d L a0S ∗ rowsAny d L a1S ∗ rowsAny d L o0S ∗ rowsAny d L o1S
            ∗ cells0 d L ∗ ∃ W', ⌜Waited W W'⌝ ∗ owes (VT d L) O W') := by
  have b6 : Transfers.BatchOf (VT d L) (SemLoc.dma (sig := sig) cc0_scratch6.sem) 2 := Transfers.BatchOf.intro _ _ _
  have b7 : Transfers.BatchOf (VT d L) (SemLoc.dma (sig := sig) cc0_scratch7.sem) 2 := Transfers.BatchOf.intro _ _ _
  have b8 : Transfers.BatchOf (VT d L) (SemLoc.dma (sig := sig) cc0_scratch8.sem) 2 := Transfers.BatchOf.intro _ _ _
  have b9 : Transfers.BatchOf (VT d L) (SemLoc.dma (sig := sig) cc0_scratch9.sem) 2 := Transfers.BatchOf.intro _ _ _
  simp only [cc0__cgate_eq_skeleton]; unfold cc0__cgate_skel
  simp only [k0_part1_eq_skeleton]; unfold k0_part1_skel
  obtain ⟨hZ0, hZ1, hZ2, hZ3, hZ4, hZ5, hZ6, hZ7⟩ := hZ
  by_cases hh : k0_cond1 L = 1#1
  on_goal 1 => rw [zeroRes_pos d L hh X Y, zeroRes_pos d L hh X Z]; obtain ⟨hC0, hC1, hC2, hC3, hC4, hC5, hC6, hC7⟩ := hC hh
  on_goal 2 => rw [zeroRes_neg d L hh X Y, zeroRes_neg d L hh X Z]
  all_goals iintro ⟨Hu, ⟨HX00, HX10, HX01, HX11, HX02, HX12, HX03, HX13, HX04, HX14, HX05, HX15, HX06, HX16, HX07, HX17⟩, ⟨HY00, HY10, HY01, HY11, HY02, HY12, HY03, HY13, HY04, HY14, HY05, HY15, HY06, HY16, HY07, HY17⟩, HZ, ⟨%f5, Hus⟩, ⟨⟨%f60, HA0⟩, ⟨%f61, HA1⟩⟩, ⟨⟨%f70, HB0⟩, ⟨%f71, HB1⟩⟩, ⟨⟨%f80, HP0⟩, ⟨%f81, HP1⟩⟩, ⟨⟨%f90, HQ0⟩, ⟨%f91, HQ1⟩⟩, ⟨S6, S7, S8, S9, S10, S11, S12, S13, S14⟩, Hmw, HO⟩
  on_goal 1 => icases HZ with ⟨⟨BX0, BX1, BX2, BX3, BX4, BX5, BX6, BX7⟩, ⟨BY0, BY1, BY2, BY3, BY4, BY5, BY6, BY7⟩, ⟨%s0, HS0⟩, ⟨%s1, HS1⟩⟩
  all_goals sl_exec
  all_goals
    rw [pay1_row, pay2_row, pay3_row, pay4_row]
  all_goals
    iapply (wp_row d L (row a0S ![0, 0] inb_S2x8192_S1x8192_0_0) (row a1S ![0, 0] inb_S2x8192_S1x8192_0_0) (row o0S ![0, 0] inb_S2x8192_S1x8192_0_0) (row o1S ![0, 0] inb_S2x8192_S1x8192_0_0) _ _ _ _ _ _ _ _ _ _ _ _ _ _) $$ [HA0 HB0 HP0 HQ0]
    · isplitl [HA0]; · iexact HA0
      isplitl [HB0]; · iexact HB0
      isplitl [HP0]; · iexact HP0
      iexact HQ0
    iintro %g0 %h0 %eg0 %eh0 HA0 HB0 HP0 HQ0
  all_goals sl_exec
  all_goals
    iapply (wp_row d L (row a0S ![1, 0] inb_S2x8192_S1x8192_1_0) (row a1S ![1, 0] inb_S2x8192_S1x8192_1_0) (row o0S ![1, 0] inb_S2x8192_S1x8192_1_0) (row o1S ![1, 0] inb_S2x8192_S1x8192_1_0) _ _ _ _ _ _ _ _ _ _ _ _ _ _) $$ [HA1 HB1 HP1 HQ1]
    · isplitl [HA1]; · iexact HA1
      isplitl [HB1]; · iexact HB1
      isplitl [HP1]; · iexact HP1
      iexact HQ1
    iintro %g1 %h1 %eg1 %eh1 HA1 HB1 HP1 HQ1
  all_goals sl_exec
  all_goals
    iapply (wp_row d L (row a0S ![0, 0] inb_S2x8192_S1x8192_0_0) (row a1S ![0, 0] inb_S2x8192_S1x8192_0_0) (row o0S ![0, 0] inb_S2x8192_S1x8192_0_0) (row o1S ![0, 0] inb_S2x8192_S1x8192_0_0) _ _ _ _ _ _ _ _ _ _ _ _ _ _) $$ [HA0 HB0 HP0 HQ0]
    · isplitl [HA0]; · iexact HA0
      isplitl [HB0]; · iexact HB0
      isplitl [HP0]; · iexact HP0
      iexact HQ0
    iintro %g2 %h2 %eg2 %eh2 HA0 HB0 HP0 HQ0
  all_goals sl_exec
  all_goals
    iapply (wp_row d L (row a0S ![1, 0] inb_S2x8192_S1x8192_1_0) (row a1S ![1, 0] inb_S2x8192_S1x8192_1_0) (row o0S ![1, 0] inb_S2x8192_S1x8192_1_0) (row o1S ![1, 0] inb_S2x8192_S1x8192_1_0) _ _ _ _ _ _ _ _ _ _ _ _ _ _) $$ [HA1 HB1 HP1 HQ1]
    · isplitl [HA1]; · iexact HA1
      isplitl [HB1]; · iexact HB1
      isplitl [HP1]; · iexact HP1
      iexact HQ1
    iintro %g3 %h3 %eg3 %eh3 HA1 HB1 HP1 HQ1
  all_goals sl_exec
  all_goals
    iapply (wp_row d L (row a0S ![0, 0] inb_S2x8192_S1x8192_0_0) (row a1S ![0, 0] inb_S2x8192_S1x8192_0_0) (row o0S ![0, 0] inb_S2x8192_S1x8192_0_0) (row o1S ![0, 0] inb_S2x8192_S1x8192_0_0) _ _ _ _ _ _ _ _ _ _ _ _ _ _) $$ [HA0 HB0 HP0 HQ0]
    · isplitl [HA0]; · iexact HA0
      isplitl [HB0]; · iexact HB0
      isplitl [HP0]; · iexact HP0
      iexact HQ0
    iintro %g4 %h4 %eg4 %eh4 HA0 HB0 HP0 HQ0
  all_goals sl_exec
  all_goals
    iapply (wp_row d L (row a0S ![1, 0] inb_S2x8192_S1x8192_1_0) (row a1S ![1, 0] inb_S2x8192_S1x8192_1_0) (row o0S ![1, 0] inb_S2x8192_S1x8192_1_0) (row o1S ![1, 0] inb_S2x8192_S1x8192_1_0) _ _ _ _ _ _ _ _ _ _ _ _ _ _) $$ [HA1 HB1 HP1 HQ1]
    · isplitl [HA1]; · iexact HA1
      isplitl [HB1]; · iexact HB1
      isplitl [HP1]; · iexact HP1
      iexact HQ1
    iintro %g5 %h5 %eg5 %eh5 HA1 HB1 HP1 HQ1
  all_goals sl_exec
  all_goals
    iapply (wp_row d L (row a0S ![0, 0] inb_S2x8192_S1x8192_0_0) (row a1S ![0, 0] inb_S2x8192_S1x8192_0_0) (row o0S ![0, 0] inb_S2x8192_S1x8192_0_0) (row o1S ![0, 0] inb_S2x8192_S1x8192_0_0) _ _ _ _ _ _ _ _ _ _ _ _ _ _) $$ [HA0 HB0 HP0 HQ0]
    · isplitl [HA0]; · iexact HA0
      isplitl [HB0]; · iexact HB0
      isplitl [HP0]; · iexact HP0
      iexact HQ0
    iintro %g6 %h6 %eg6 %eh6 HA0 HB0 HP0 HQ0
  all_goals sl_exec
  all_goals
    iapply (wp_row d L (row a0S ![1, 0] inb_S2x8192_S1x8192_1_0) (row a1S ![1, 0] inb_S2x8192_S1x8192_1_0) (row o0S ![1, 0] inb_S2x8192_S1x8192_1_0) (row o1S ![1, 0] inb_S2x8192_S1x8192_1_0) _ _ _ _ _ _ _ _ _ _ _ _ _ _) $$ [HA1 HB1 HP1 HQ1]
    · isplitl [HA1]; · iexact HA1
      isplitl [HB1]; · iexact HB1
      isplitl [HP1]; · iexact HP1
      iexact HQ1
    iintro %g7 %h7 %eg7 %eh7 HA1 HB1 HP1 HQ1
  all_goals sl_exec

  all_goals sl_step
  all_goals isplitl [Hu]; · iexact Hu
  all_goals
    isplitl [HX00 HX10 HX01 HX11 HX02 HX12 HX03 HX13 HX04 HX14 HX05 HX15 HX06 HX16 HX07 HX17]
    · isplitl [HX00]; · iexact HX00
      isplitl [HX10]; · iexact HX10
      isplitl [HX01]; · iexact HX01
      isplitl [HX11]; · iexact HX11
      isplitl [HX02]; · iexact HX02
      isplitl [HX12]; · iexact HX12
      isplitl [HX03]; · iexact HX03
      isplitl [HX13]; · iexact HX13
      isplitl [HX04]; · iexact HX04
      isplitl [HX14]; · iexact HX14
      isplitl [HX05]; · iexact HX05
      isplitl [HX15]; · iexact HX15
      isplitl [HX06]; · iexact HX06
      isplitl [HX16]; · iexact HX16
      isplitl [HX07]; · iexact HX07
      iexact HX17
  all_goals
    isplitl [HY00 HY10 HY01 HY11 HY02 HY12 HY03 HY13 HY04 HY14 HY05 HY15 HY06 HY16 HY07 HY17]
    · isplitl [HY00]; · iapply (held_stored d L (chunk L oV 4194304#32 0#32 (k0_off2_inb L 0 0)) _ Z ((row o0S ![0, 0] inb_S2x8192_S1x8192_0_0).view.read (Elt F) g0) (hZ0.1.trans eg0.symm)); iexact HY00
      isplitl [HY10]; · iapply (held_stored d L (chunk L oV 6291456#32 0#32 (k0_off2_inb L 1 0)) _ Z ((row o1S ![0, 0] inb_S2x8192_S1x8192_0_0).view.read (Elt F) h0) (hZ0.2.trans eh0.symm)); iexact HY10
      isplitl [HY01]; · iapply (held_stored d L (chunk L oV 4194304#32 8192#32 (k0_off2_inb L 0 1)) _ Z ((row o0S ![1, 0] inb_S2x8192_S1x8192_1_0).view.read (Elt F) g1) (hZ1.1.trans eg1.symm)); iexact HY01
      isplitl [HY11]; · iapply (held_stored d L (chunk L oV 6291456#32 8192#32 (k0_off2_inb L 1 1)) _ Z ((row o1S ![1, 0] inb_S2x8192_S1x8192_1_0).view.read (Elt F) h1) (hZ1.2.trans eh1.symm)); iexact HY11
      isplitl [HY02]; · iapply (held_stored d L (chunk L oV 4194304#32 16384#32 (k0_off2_inb L 0 2)) _ Z ((row o0S ![0, 0] inb_S2x8192_S1x8192_0_0).view.read (Elt F) g2) (hZ2.1.trans eg2.symm)); iexact HY02
      isplitl [HY12]; · iapply (held_stored d L (chunk L oV 6291456#32 16384#32 (k0_off2_inb L 1 2)) _ Z ((row o1S ![0, 0] inb_S2x8192_S1x8192_0_0).view.read (Elt F) h2) (hZ2.2.trans eh2.symm)); iexact HY12
      isplitl [HY03]; · iapply (held_stored d L (chunk L oV 4194304#32 24576#32 (k0_off2_inb L 0 3)) _ Z ((row o0S ![1, 0] inb_S2x8192_S1x8192_1_0).view.read (Elt F) g3) (hZ3.1.trans eg3.symm)); iexact HY03
      isplitl [HY13]; · iapply (held_stored d L (chunk L oV 6291456#32 24576#32 (k0_off2_inb L 1 3)) _ Z ((row o1S ![1, 0] inb_S2x8192_S1x8192_1_0).view.read (Elt F) h3) (hZ3.2.trans eh3.symm)); iexact HY13
      isplitl [HY04]; · iapply (held_stored d L (chunk L oV 4194304#32 32768#32 (k0_off2_inb L 0 4)) _ Z ((row o0S ![0, 0] inb_S2x8192_S1x8192_0_0).view.read (Elt F) g4) (hZ4.1.trans eg4.symm)); iexact HY04
      isplitl [HY14]; · iapply (held_stored d L (chunk L oV 6291456#32 32768#32 (k0_off2_inb L 1 4)) _ Z ((row o1S ![0, 0] inb_S2x8192_S1x8192_0_0).view.read (Elt F) h4) (hZ4.2.trans eh4.symm)); iexact HY14
      isplitl [HY05]; · iapply (held_stored d L (chunk L oV 4194304#32 40960#32 (k0_off2_inb L 0 5)) _ Z ((row o0S ![1, 0] inb_S2x8192_S1x8192_1_0).view.read (Elt F) g5) (hZ5.1.trans eg5.symm)); iexact HY05
      isplitl [HY15]; · iapply (held_stored d L (chunk L oV 6291456#32 40960#32 (k0_off2_inb L 1 5)) _ Z ((row o1S ![1, 0] inb_S2x8192_S1x8192_1_0).view.read (Elt F) h5) (hZ5.2.trans eh5.symm)); iexact HY15
      isplitl [HY06]; · iapply (held_stored d L (chunk L oV 4194304#32 49152#32 (k0_off2_inb L 0 6)) _ Z ((row o0S ![0, 0] inb_S2x8192_S1x8192_0_0).view.read (Elt F) g6) (hZ6.1.trans eg6.symm)); iexact HY06
      isplitl [HY16]; · iapply (held_stored d L (chunk L oV 6291456#32 49152#32 (k0_off2_inb L 1 6)) _ Z ((row o1S ![0, 0] inb_S2x8192_S1x8192_0_0).view.read (Elt F) h6) (hZ6.2.trans eh6.symm)); iexact HY16
      isplitl [HY07]; · iapply (held_stored d L (chunk L oV 4194304#32 57344#32 (k0_off2_inb L 0 7)) _ Z ((row o0S ![1, 0] inb_S2x8192_S1x8192_1_0).view.read (Elt F) g7) (hZ7.1.trans eg7.symm)); iexact HY07
      iapply (held_stored d L (chunk L oV 6291456#32 57344#32 (k0_off2_inb L 1 7)) _ Z ((row o1S ![1, 0] inb_S2x8192_S1x8192_1_0).view.read (Elt F) h7) (hZ7.2.trans eh7.symm)); iexact HY17
  on_goal 1 =>
    isplitl [BX0 BX1 BX2 BX3 BX4 BX5 BX6 BX7 BY0 BY1 BY2 BY3 BY4 BY5 BY6 BY7 HS0 HS1]
    · isplitl [BX0 BX1 BX2 BX3 BX4 BX5 BX6 BX7]
      · isplitl [BX0]; · iexact BX0
        isplitl [BX1]; · iexact BX1
        isplitl [BX2]; · iexact BX2
        isplitl [BX3]; · iexact BX3
        isplitl [BX4]; · iexact BX4
        isplitl [BX5]; · iexact BX5
        isplitl [BX6]; · iexact BX6
        iexact BX7
      isplitl [BY0 BY1 BY2 BY3 BY4 BY5 BY6 BY7]
      · isplitl [BY0]; · iapply (held_stored d L (block oV (k0_off4 L 0#32) (k0_off4_inb L hh 0)) _ Z _ (hC0.trans (read_writes_whole (shRow ![0, 0] inb_S2x262144_S1x262144_0_0) _ _ _).symm)); iexact BY0
        isplitl [BY1]; · iapply (held_stored d L (block oV (k0_off6 L 262144#32) (k0_off6_inb L hh 1)) _ Z _ (hC1.trans (read_writes_whole (shRow ![1, 0] inb_S2x262144_S1x262144_1_0) _ _ _).symm)); iexact BY1
        isplitl [BY2]; · iapply (held_stored d L (block oV (k0_off8 L 524288#32) (k0_off8_inb L hh 1)) _ Z _ (hC2.trans (read_writes_whole (shRow ![0, 0] inb_S2x262144_S1x262144_0_0) _ _ _).symm)); iexact BY2
        isplitl [BY3]; · iapply (held_stored d L (block oV (k0_off10 L 786432#32) (k0_off10_inb L hh 1)) _ Z _ (hC3.trans (read_writes_whole (shRow ![1, 0] inb_S2x262144_S1x262144_1_0) _ _ _).symm)); iexact BY3
        isplitl [BY4]; · iapply (held_stored d L (block oV (k0_off12 L 1048576#32) (k0_off12_inb L hh 1)) _ Z _ (hC4.trans (read_writes_whole (shRow ![0, 0] inb_S2x262144_S1x262144_0_0) _ _ _).symm)); iexact BY4
        isplitl [BY5]; · iapply (held_stored d L (block oV (k0_off14 L 1310720#32) (k0_off14_inb L hh 1)) _ Z _ (hC5.trans (read_writes_whole (shRow ![1, 0] inb_S2x262144_S1x262144_1_0) _ _ _).symm)); iexact BY5
        isplitl [BY6]; · iapply (held_stored d L (block oV (k0_off16 L 1572864#32) (k0_off16_inb L hh 1)) _ Z _ (hC6.trans (read_writes_whole (shRow ![0, 0] inb_S2x262144_S1x262144_0_0) _ _ _).symm)); iexact BY6
        iapply (held_stored d L (block oV (k0_off18 L 1835008#32) (k0_off18_inb L hh 1)) _ Z _ (hC7.trans (read_writes_whole (shRow ![1, 0] inb_S2x262144_S1x262144_1_0) _ _ _).symm)); iexact BY7
      isplitl [HS0]; · iexists _; iexact HS0
      iexists _; iexact HS1
  on_goal 2 =>
    isplitl [HZ]; · iexact HZ
  all_goals
    isplitl [Hus]; · iexists _; iexact Hus
    isplitl [HA0 HA1]
    · isplitl [HA0]; · iexists _; iexact HA0
      iexists _; iexact HA1
    isplitl [HB0 HB1]
    · isplitl [HB0]; · iexists _; iexact HB0
      iexists _; iexact HB1
    isplitl [HP0 HP1]
    · isplitl [HP0]; · iexists _; iexact HP0
      iexists _; iexact HP1
    isplitl [HQ0 HQ1]
    · isplitl [HQ0]; · iexists _; iexact HQ0
      iexists _; iexact HQ1
    isplitl [S6 S7 S8 S9 S10 S11 S12 S13 S14]
    · isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      iexact S14
    iexists _
    isplitr
    swap; · iexact HO
    ipureintro
    repeat' first | exact Waited.refl W | refine Waited.insert ?_ _

end Cert.Proof.Gate
-- ==== Proof.Pieces.lean ====
/-
  The two large arrays cut into pieces: the sixteen chunks of every task and the eight blocks of every core are disjoint and
  cover an array, so a whole array is the sum of its pieces; and what a task calls its chunks and its blocks are these pieces.
-/
module

public import proofs.«01_k».proof.Proof.Tile

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "xV" => (Memref.whole main_arg0_scv : Memref sig Kind.scVector Space.hbm S8388608 EltTy.f32)
local notation "oV" => (Memref.whole main_v4_scv : Memref sig Kind.scVector Space.hbm S8388608 EltTy.f32)

/-! ## The ranges of the two large arrays -/

/-- The elements `a, …, a + n - 1` of a large array. -/
def rng (a n : Nat) : Finset S8388608.Idx := Finset.univ.filter fun i => a ≤ (i 0).val ∧ (i 0).val < a + n

theorem mem_rng {a n : Nat} {i : S8388608.Idx} : i ∈ rng a n ↔ a ≤ (i 0).val ∧ (i 0).val < a + n := by
  simp only [rng, Finset.mem_filter, Finset.mem_univ, true_and]

theorem set_unit_rng (o : Fin 1 → Nat) (n : Fin 1 → Nat) (h : ∀ ax, o ax + n ax ≤ S8388608.size ax) :
    (Rect.unit (s := S8388608) o n h).set = rng (o 0) (n 0) := by
  ext i
  rw [Rect.mem_set_unit, mem_rng]
  exact ⟨fun h => h 0, fun h a => match a with | 0 => h⟩

/-- Where chunk `k` of row `r` of the blended half begins, for the task at `(c, s)`. -/
abbrev upAt (c : Fin 2) (s : Fin 16) (x : Fin 8 × Fin 2) : Nat := 2097152 * x.2.val + 131072 * s.val + 65536 * c.val + 8192 * x.1.val + 4194304

/-- Where block `j` of the copied half begins, for core `c`. -/
abbrev loAt (c : Fin 2) (j : Fin 8) : Nat := 2097152 * c.val + 262144 * j.val

abbrev up (c : Fin 2) (s : Fin 16) (x : Fin 8 × Fin 2) : Finset S8388608.Idx := rng (upAt c s x) 8192
abbrev lo (c : Fin 2) (j : Fin 8) : Finset S8388608.Idx := rng (loAt c j) 262144

/-- All the pieces: the chunks of every task, the blocks of every core. -/
abbrev Pc : Type := (Fin 2 × Fin 16 × Fin 8 × Fin 2) ⊕ (Fin 2 × Fin 8)

abbrev pcSet : Pc → Finset S8388608.Idx
  | .inl x => up x.1 x.2.1 x.2.2
  | .inr x => lo x.1 x.2

theorem pcs_disjoint : ∀ x ∈ (Finset.univ : Finset Pc), ∀ y ∈ (Finset.univ : Finset Pc), x ≠ y → Disjoint (pcSet x) (pcSet y) := by
  intro x _ y _ hxy
  refine Finset.disjoint_left.mpr fun i hx hy => hxy ?_
  rcases x with ⟨c, s, k, r⟩ | ⟨c, j⟩ <;> rcases y with ⟨c', s', k', r'⟩ | ⟨c', j'⟩ <;>
    (have hx := mem_rng.mp hx; have hy := mem_rng.mp hy; simp only [upAt, loAt] at hx hy)
  · have hr : r = r' := Fin.ext (by omega)
    subst hr
    have hs : s = s' := Fin.ext (by omega)
    subst hs
    have hc : c = c' := Fin.ext (by omega)
    subst hc
    have hk : k = k' := Fin.ext (by omega)
    subst hk; rfl
  · omega
  · omega
  · have hc : c = c' := Fin.ext (by omega)
    subst hc
    have hj : j = j' := Fin.ext (by omega)
    subst hj; rfl

theorem idx_lt (i : S8388608.Idx) : (i 0).val < 8388608 := (i 0).isLt

theorem pcs_cover : (Finset.univ : Finset Pc).biUnion pcSet = Finset.univ := by
  refine Finset.eq_univ_iff_forall.mpr fun i => ?_
  have hi := idx_lt i
  by_cases h : (i 0).val < 4194304
  · refine Finset.mem_biUnion.mpr ⟨.inr (⟨(i 0).val / 2097152, by omega⟩, ⟨(i 0).val % 2097152 / 262144, by omega⟩), Finset.mem_univ _, ?_⟩
    refine mem_rng.mpr ?_
    simp only [loAt]
    omega
  · refine Finset.mem_biUnion.mpr ⟨.inl (⟨(i 0).val % 131072 / 65536, by omega⟩, ⟨(i 0).val % 2097152 / 131072, by omega⟩,
      ⟨(i 0).val % 65536 / 8192, by omega⟩, ⟨((i 0).val - 4194304) / 2097152, by omega⟩), Finset.mem_univ _, ?_⟩
    refine mem_rng.mpr ?_
    simp only [upAt]
    omega

abbrev xLoc (d : Dev nD) : Loc nD τ sig := (SparseCore.T d).loc main_arg0
abbrev yLoc (d : Dev nD) : Loc nD τ sig := (SparseCore.T d).loc main_arg1
abbrev uLoc (d : Dev nD) : Loc nD τ sig := (SparseCore.T d).loc main_v3
abbrev oLoc (d : Dev nD) : Loc nD τ sig := (SparseCore.T d).loc main_v4
abbrev shRef (c : Fin τ.nSC) : DevRef τ sig := ⟨.shared, ⟨0, by decide⟩, c⟩
abbrev shLoc (d : Dev nD) (c : Fin τ.nSC) : Loc nD τ sig := (d, shRef c)

/-- The sixteen chunks of the task at `(c, s)`, and the eight blocks of core `c`: of the input, of the output. -/
abbrev upX (d : Dev nD) (c : Fin 2) (s : Fin 16) (f : Buf (Elt F) (xLoc d)) : sProp 𝕄 := bigSep Finset.univ fun x => xLoc d ↦[up c s x]{fullShare} f
abbrev upO (d : Dev nD) (c : Fin 2) (s : Fin 16) (f : Buf (Elt F) (oLoc d)) : sProp 𝕄 := bigSep Finset.univ fun x => oLoc d ↦[up c s x]{fullShare} f
abbrev loX (d : Dev nD) (c : Fin 2) (f : Buf (Elt F) (xLoc d)) : sProp 𝕄 := bigSep Finset.univ fun j => xLoc d ↦[lo c j]{fullShare} f
abbrev loO (d : Dev nD) (c : Fin 2) (f : Buf (Elt F) (oLoc d)) : sProp 𝕄 := bigSep Finset.univ fun j => oLoc d ↦[lo c j]{fullShare} f

theorem sep_congr {A B C D : sProp 𝕄} (h : A = B) (h' : C = D) : (iprop(A ∗ C) : sProp 𝕄) = iprop(B ∗ D) := h ▸ h' ▸ rfl

theorem x_pcs (d : Dev nD) (f : Buf (Elt F) (xLoc d)) :
    (xLoc d ↦{fullShare} f : sProp 𝕄) = bigSep Finset.univ fun t : Pc => xLoc d ↦[pcSet t]{fullShare} f := by
  rw [← pointsTo_biUnion Finset.univ (ℓ := xLoc d) pcSet pcs_disjoint, pcs_cover]; try rfl

theorem x_pieces (d : Dev nD) (f : Buf (Elt F) (xLoc d)) :
    (xLoc d ↦{fullShare} f : sProp 𝕄)
      = iprop((bigSep Finset.univ fun c => bigSep Finset.univ fun s => upX d c s f) ∗ bigSep Finset.univ fun c => loX d c f) := by
  rw [x_pcs, BI.bigSep_univ_sum, BI.bigSep_univ_prod, BI.bigSep_univ_prod (fun x : Fin 2 × Fin 8 => (xLoc d ↦[pcSet (.inr x)]{fullShare} f : sProp 𝕄))]
  exact sep_congr (bigSep_congr fun c _ => BI.bigSep_univ_prod _) rfl

theorem o_pcs (d : Dev nD) (f : Buf (Elt F) (oLoc d)) :
    (oLoc d ↦{fullShare} f : sProp 𝕄) = bigSep Finset.univ fun t : Pc => oLoc d ↦[pcSet t]{fullShare} f := by
  rw [← pointsTo_biUnion Finset.univ (ℓ := oLoc d) pcSet pcs_disjoint, pcs_cover]; try rfl

theorem o_pieces (d : Dev nD) (f : Buf (Elt F) (oLoc d)) :
    (oLoc d ↦{fullShare} f : sProp 𝕄)
      = iprop((bigSep Finset.univ fun c => bigSep Finset.univ fun s => upO d c s f) ∗ bigSep Finset.univ fun c => loO d c f) := by
  rw [o_pcs, BI.bigSep_univ_sum, BI.bigSep_univ_prod, BI.bigSep_univ_prod (fun x : Fin 2 × Fin 8 => (oLoc d ↦[pcSet (.inr x)]{fullShare} f : sProp 𝕄))]
  exact sep_congr (bigSep_congr fun c _ => BI.bigSep_univ_prod _) rfl

/-! ## The pieces as a task spells them -/

variable (d : Dev nD) (L : grid0.Coords)

/-- The SparseCore and the subcore a task's coordinates name. -/
abbrev cOf (L : grid0.Coords) : Fin 2 := L 0
abbrev sOf (L : grid0.Coords) : Fin 16 := L 1

theorem k0_off2_at (r : Fin 2) (k : Fin 8) :
    k0_off2 L (BitVec.ofNat 32 (4194304 + 2097152 * r.val)) (BitVec.ofNat 32 (8192 * k.val)) 0 = upAt (cOf L) (sOf L) (k, r) := by
  rw [k0_off2_eq]
  rw [Matrix.cons_val_zero]

theorem heldX_slice (o n : Fin 1 → Nat) (h : ∀ ax, o ax + n ax ≤ S8388608.size ax) (a b : Nat) (ha : o 0 = a) (hb : n 0 = b) (f : Buf (Elt F) (xLoc d)) :
    (held d L ((xV).slice (Rect.unit (s := S8388608) o n h) (fun _ => rfl)) f : sProp 𝕄) = xLoc d ↦[rng a b]{fullShare} f := by
  subst ha hb
  have e : ((xV).slice (Rect.unit (s := S8388608) o n h) (fun _ => rfl)).view.set = rng (o 0) (n 0) :=
    (View.set_slice_whole main_arg0_scv (Rect.unit (s := S8388608) o n h)).trans (set_unit_rng o n h)
  unfold held
  rw [e]

theorem heldO_slice (o n : Fin 1 → Nat) (h : ∀ ax, o ax + n ax ≤ S8388608.size ax) (a b : Nat) (ha : o 0 = a) (hb : n 0 = b) (f : Buf (Elt F) (oLoc d)) :
    (held d L ((oV).slice (Rect.unit (s := S8388608) o n h) (fun _ => rfl)) f : sProp 𝕄) = oLoc d ↦[rng a b]{fullShare} f := by
  subst ha hb
  have e : ((oV).slice (Rect.unit (s := S8388608) o n h) (fun _ => rfl)).view.set = rng (o 0) (n 0) :=
    (View.set_slice_whole main_v4_scv (Rect.unit (s := S8388608) o n h)).trans (set_unit_rng o n h)
  unfold held
  rw [e]

/-- The chunks in the task's order: for each `k` both rows. -/
abbrev order : List (Fin 8 × Fin 2) :=
  [(0, 0), (0, 1), (1, 0), (1, 1), (2, 0), (2, 1), (3, 0), (3, 1), (4, 0), (4, 1), (5, 0), (5, 1), (6, 0), (6, 1), (7, 0), (7, 1)]

theorem chunks_upX (f : Buf (Elt F) (xLoc d)) : (chunks d L xV f : sProp 𝕄) = upX d (cOf L) (sOf L) f := by
  unfold upX
  rw [bigSep_univ_eq_bigSepL order (by decide) (by decide)]
  exact sep_congr (heldX_slice d L _ _ _ _ _ (k0_off2_at L 0 0) rfl f) (
    sep_congr (heldX_slice d L _ _ _ _ _ (k0_off2_at L 1 0) rfl f) (
    sep_congr (heldX_slice d L _ _ _ _ _ (k0_off2_at L 0 1) rfl f) (
    sep_congr (heldX_slice d L _ _ _ _ _ (k0_off2_at L 1 1) rfl f) (
    sep_congr (heldX_slice d L _ _ _ _ _ (k0_off2_at L 0 2) rfl f) (
    sep_congr (heldX_slice d L _ _ _ _ _ (k0_off2_at L 1 2) rfl f) (
    sep_congr (heldX_slice d L _ _ _ _ _ (k0_off2_at L 0 3) rfl f) (
    sep_congr (heldX_slice d L _ _ _ _ _ (k0_off2_at L 1 3) rfl f) (
    sep_congr (heldX_slice d L _ _ _ _ _ (k0_off2_at L 0 4) rfl f) (
    sep_congr (heldX_slice d L _ _ _ _ _ (k0_off2_at L 1 4) rfl f) (
    sep_congr (heldX_slice d L _ _ _ _ _ (k0_off2_at L 0 5) rfl f) (
    sep_congr (heldX_slice d L _ _ _ _ _ (k0_off2_at L 1 5) rfl f) (
    sep_congr (heldX_slice d L _ _ _ _ _ (k0_off2_at L 0 6) rfl f) (
    sep_congr (heldX_slice d L _ _ _ _ _ (k0_off2_at L 1 6) rfl f) (
    sep_congr (heldX_slice d L _ _ _ _ _ (k0_off2_at L 0 7) rfl f) (
    heldX_slice d L _ _ _ _ _ (k0_off2_at L 1 7) rfl f)))))))))))))))

theorem chunks_upO (f : Buf (Elt F) (oLoc d)) : (chunks d L oV f : sProp 𝕄) = upO d (cOf L) (sOf L) f := by
  unfold upO
  rw [bigSep_univ_eq_bigSepL order (by decide) (by decide)]
  exact sep_congr (heldO_slice d L _ _ _ _ _ (k0_off2_at L 0 0) rfl f) (
    sep_congr (heldO_slice d L _ _ _ _ _ (k0_off2_at L 1 0) rfl f) (
    sep_congr (heldO_slice d L _ _ _ _ _ (k0_off2_at L 0 1) rfl f) (
    sep_congr (heldO_slice d L _ _ _ _ _ (k0_off2_at L 1 1) rfl f) (
    sep_congr (heldO_slice d L _ _ _ _ _ (k0_off2_at L 0 2) rfl f) (
    sep_congr (heldO_slice d L _ _ _ _ _ (k0_off2_at L 1 2) rfl f) (
    sep_congr (heldO_slice d L _ _ _ _ _ (k0_off2_at L 0 3) rfl f) (
    sep_congr (heldO_slice d L _ _ _ _ _ (k0_off2_at L 1 3) rfl f) (
    sep_congr (heldO_slice d L _ _ _ _ _ (k0_off2_at L 0 4) rfl f) (
    sep_congr (heldO_slice d L _ _ _ _ _ (k0_off2_at L 1 4) rfl f) (
    sep_congr (heldO_slice d L _ _ _ _ _ (k0_off2_at L 0 5) rfl f) (
    sep_congr (heldO_slice d L _ _ _ _ _ (k0_off2_at L 1 5) rfl f) (
    sep_congr (heldO_slice d L _ _ _ _ _ (k0_off2_at L 0 6) rfl f) (
    sep_congr (heldO_slice d L _ _ _ _ _ (k0_off2_at L 1 6) rfl f) (
    sep_congr (heldO_slice d L _ _ _ _ _ (k0_off2_at L 0 7) rfl f) (
    heldO_slice d L _ _ _ _ _ (k0_off2_at L 1 7) rfl f)))))))))))))))

theorem k0_off1_at : k0_off1 L 0 = loAt (cOf L) 0 := by
  rw [k0_off1_eq]; rfl

theorem k0_off4_at (r : Fin 2) : k0_off4 L (BitVec.ofNat 32 (262144 * r.val)) 0 = 2097152 * (cOf L).val + 262144 * (0 + r.val) := by
  rw [k0_off4_eq]; show 2097152 * (L 0).val + 262144 * r.val = _; simp only [cOf]; omega

theorem k0_off6_at (r : Fin 3) : k0_off6 L (BitVec.ofNat 32 (262144 * r.val)) 0 = 2097152 * (cOf L).val + 262144 * (0 + r.val) := by
  rw [k0_off6_eq]; show 2097152 * (L 0).val + 262144 * r.val = _; simp only [cOf]; omega

theorem k0_off8_at (r : Fin 3) : k0_off8 L (BitVec.ofNat 32 (262144 + 262144 * r.val)) 0 = 2097152 * (cOf L).val + 262144 * (1 + r.val) := by
  rw [k0_off8_eq]; show 2097152 * (L 0).val + 262144 * r.val + 262144 = _; simp only [cOf]; omega

theorem k0_off10_at (r : Fin 3) : k0_off10 L (BitVec.ofNat 32 (524288 + 262144 * r.val)) 0 = 2097152 * (cOf L).val + 262144 * (2 + r.val) := by
  rw [k0_off10_eq]; show 2097152 * (L 0).val + 262144 * r.val + 524288 = _; simp only [cOf]; omega

theorem k0_off12_at (r : Fin 3) : k0_off12 L (BitVec.ofNat 32 (786432 + 262144 * r.val)) 0 = 2097152 * (cOf L).val + 262144 * (3 + r.val) := by
  rw [k0_off12_eq]; show 2097152 * (L 0).val + 262144 * r.val + 786432 = _; simp only [cOf]; omega

theorem k0_off14_at (r : Fin 3) : k0_off14 L (BitVec.ofNat 32 (1048576 + 262144 * r.val)) 0 = 2097152 * (cOf L).val + 262144 * (4 + r.val) := by
  rw [k0_off14_eq]; show 2097152 * (L 0).val + 262144 * r.val + 1048576 = _; simp only [cOf]; omega

theorem k0_off16_at (r : Fin 3) : k0_off16 L (BitVec.ofNat 32 (1310720 + 262144 * r.val)) 0 = 2097152 * (cOf L).val + 262144 * (5 + r.val) := by
  rw [k0_off16_eq]; show 2097152 * (L 0).val + 262144 * r.val + 1310720 = _; simp only [cOf]; omega

theorem k0_off18_at (r : Fin 2) : k0_off18 L (BitVec.ofNat 32 (1572864 + 262144 * r.val)) 0 = 2097152 * (cOf L).val + 262144 * (6 + r.val) := by
  rw [k0_off18_eq]; show 2097152 * (L 0).val + 262144 * r.val + 1572864 = _; simp only [cOf]; omega

theorem blocks_loX (h : k0_cond1 L = 1#1) (f : Buf (Elt F) (xLoc d)) : (blocksX d L h f : sProp 𝕄) = loX d (cOf L) f := by
  unfold loX
  rw [bigSep_univ_eq_bigSepL [0, 1, 2, 3, 4, 5, 6, 7] (by decide) (by decide)]
  exact sep_congr (heldX_slice d L _ _ _ _ _ (k0_off1_at L) rfl f) (
    sep_congr (heldX_slice d L _ _ _ _ _ (k0_off4_at L 1) rfl f) (
    sep_congr (heldX_slice d L _ _ _ _ _ (k0_off6_at L 2) rfl f) (
    sep_congr (heldX_slice d L _ _ _ _ _ (k0_off8_at L 2) rfl f) (
    sep_congr (heldX_slice d L _ _ _ _ _ (k0_off10_at L 2) rfl f) (
    sep_congr (heldX_slice d L _ _ _ _ _ (k0_off12_at L 2) rfl f) (
    sep_congr (heldX_slice d L _ _ _ _ _ (k0_off14_at L 2) rfl f) (
    heldX_slice d L _ _ _ _ _ (k0_off16_at L 2) rfl f)))))))

theorem blocks_loO (h : k0_cond1 L = 1#1) (f : Buf (Elt F) (oLoc d)) : (blocksO d L h f : sProp 𝕄) = loO d (cOf L) f := by
  unfold loO
  rw [bigSep_univ_eq_bigSepL [0, 1, 2, 3, 4, 5, 6, 7] (by decide) (by decide)]
  exact sep_congr (heldO_slice d L _ _ _ _ _ (k0_off4_at L 0) rfl f) (
    sep_congr (heldO_slice d L _ _ _ _ _ (k0_off6_at L 1) rfl f) (
    sep_congr (heldO_slice d L _ _ _ _ _ (k0_off8_at L 1) rfl f) (
    sep_congr (heldO_slice d L _ _ _ _ _ (k0_off10_at L 1) rfl f) (
    sep_congr (heldO_slice d L _ _ _ _ _ (k0_off12_at L 1) rfl f) (
    sep_congr (heldO_slice d L _ _ _ _ _ (k0_off14_at L 1) rfl f) (
    sep_congr (heldO_slice d L _ _ _ _ _ (k0_off16_at L 1) rfl f) (
    heldO_slice d L _ _ _ _ _ (k0_off18_at L 1) rfl f)))))))

end Cert.Proof.Gate
-- ==== Proof.Result.lean ====
/-
  What the kernel leaves in the output, as one array: the lower half is the input, each element of the upper half one of the two
  combinations. On the chunks and blocks of every task it reads what the task stores there.
-/
module

public import proofs.«01_k».proof.Proof.Pieces

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "xV" => (Memref.whole main_arg0_scv : Memref sig Kind.scVector Space.hbm S8388608 EltTy.f32)
local notation "oV" => (Memref.whole main_v4_scv : Memref sig Kind.scVector Space.hbm S8388608 EltTy.f32)

variable [FloatOps F]

/-- An index of a large array by its number. -/
def ix (n : Nat) (h : n < 8388608) : S8388608.Idx := fun | 0 => ⟨n, h⟩

/-- The lane an element falls in, by its number. -/
def lanes (n : Nat) : S16.Idx := fun | 0 => ⟨n % 16, Nat.mod_lt _ (by decide)⟩

/-- What the kernel computes, element by element: the lower half is the input, and the two quarters of the upper half are
    the two combinations of the elements one quarter apart, by the coefficients in the lane the element falls in. -/
def outV (fu : S4x16.Idx → F .f32) (X : S8388608.Idx → F .f32) : S8388608.Idx → F .f32 := fun i =>
  if h : (i 0).val < 6291456 then
    if (i 0).val < 4194304 then X i
    else FloatOps.addf (FloatOps.mulf (urow 0 fu (lanes (i 0).val)) (X i))
      (FloatOps.mulf (urow 1 fu (lanes (i 0).val)) (X (ix ((i 0).val + 2097152) (by omega))))
  else FloatOps.addf (FloatOps.mulf (urow 2 fu (lanes (i 0).val)) (X (ix ((i 0).val - 2097152) (lt_of_le_of_lt (Nat.sub_le _ _) (idx_lt i)))))
      (FloatOps.mulf (urow 3 fu (lanes (i 0).val)) (X i))

variable (d : Dev nD) (L : grid0.Coords)

theorem readX_slice (o n : Fin 1 → Nat) (h : ∀ ax, o ax + n ax ≤ S8388608.size ax) (f : S8388608.Idx → F .f32) (m : Nat) (hm : m < 8388608)
    (y : (Rect.unit (s := S8388608) o n h).shape.Idx) (e : o 0 + (y 0).val = m) :
    ((xV).slice (Rect.unit (s := S8388608) o n h) (fun _ => rfl)).view.read (Elt F) f y = f (ix m hm) := by
  subst e
  refine congrArg f (funext fun a => ?_)
  match a with
  | 0 => exact Fin.ext (show o 0 + 1 * (y 0).val = o 0 + (y 0).val by rw [Nat.one_mul])

theorem readO_slice (o n : Fin 1 → Nat) (h : ∀ ax, o ax + n ax ≤ S8388608.size ax) (f : S8388608.Idx → F .f32) (m : Nat) (hm : m < 8388608)
    (y : (Rect.unit (s := S8388608) o n h).shape.Idx) (e : o 0 + (y 0).val = m) :
    ((oV).slice (Rect.unit (s := S8388608) o n h) (fun _ => rfl)).view.read (Elt F) f y = f (ix m hm) := by
  subst e
  refine congrArg f (funext fun a => ?_)
  match a with
  | 0 => exact Fin.ext (show o 0 + 1 * (y 0).val = o 0 + (y 0).val by rw [Nat.one_mul])

theorem ix_self (i : S8388608.Idx) (n : Nat) (h : n < 8388608) (e : (i 0).val = n) : i = ix n h := by
  funext a
  match a with
  | 0 => exact Fin.ext e

theorem ix_congr (n m : Nat) (h : n < 8388608) (h' : m < 8388608) (e : n = m) : ix n h = ix m h' := by subst e; rfl

theorem lanes_congr (n m : Nat) (e : n % 16 = m % 16) : lanes n = lanes m := by
  funext a
  match a with
  | 0 => exact Fin.ext e

theorem lanes_lane (n : Nat) (y : S8192.Idx) (e : n % 16 = (y 0).val % 16) : lanes n = lane y := by
  funext a
  match a with
  | 0 => exact Fin.ext e

theorem outV_low (fu : S4x16.Idx → F .f32) (X : S8388608.Idx → F .f32) (n : Nat) (h : n < 8388608) (hn : n < 4194304) :
    outV fu X (ix n h) = X (ix n h) := by
  unfold outV
  rw [dif_pos (show ((ix n h) 0).val < 6291456 by show n < 6291456; omega), if_pos (show ((ix n h) 0).val < 4194304 from hn)]

theorem outV_mid (fu : S4x16.Idx → F .f32) (X : S8388608.Idx → F .f32) (n : Nat) (hn : n < 2097152) (h : n + 4194304 < 8388608) (h' : n + 6291456 < 8388608) :
    outV fu X (ix (n + 4194304) h)
      = FloatOps.addf (FloatOps.mulf (urow 0 fu (lanes n)) (X (ix (n + 4194304) h))) (FloatOps.mulf (urow 1 fu (lanes n)) (X (ix (n + 6291456) h'))) := by
  unfold outV
  have e0 : ((ix (n + 4194304) h) 0).val = n + 4194304 := rfl
  rw [dif_pos (by omega), if_neg (by omega)]
  rw [lanes_congr ((ix (n + 4194304) h) 0).val n (by omega), ix_congr (((ix (n + 4194304) h) 0).val + 2097152) (n + 6291456) _ h' (by omega)]

theorem outV_high (fu : S4x16.Idx → F .f32) (X : S8388608.Idx → F .f32) (n : Nat) (hn : n < 2097152) (h : n + 4194304 < 8388608) (h' : n + 6291456 < 8388608) :
    outV fu X (ix (n + 6291456) h')
      = FloatOps.addf (FloatOps.mulf (urow 2 fu (lanes n)) (X (ix (n + 4194304) h))) (FloatOps.mulf (urow 3 fu (lanes n)) (X (ix (n + 6291456) h'))) := by
  unfold outV
  have e0 : ((ix (n + 6291456) h') 0).val = n + 6291456 := rfl
  rw [dif_neg (by omega)]
  rw [lanes_congr ((ix (n + 6291456) h') 0).val n (by omega), ix_congr (((ix (n + 6291456) h') 0).val - 2097152) (n + 4194304) _ h (by omega)]

theorem blended_at (fu : S4x16.Idx → F .f32) (X : S8388608.Idx → F .f32) (k : Fin 8) (a0 a1 b : BitVec 32)
    (h0 : ∀ ax, k0_off2 L a0 b ax + S8192.size ax ≤ S8388608.size ax) (h1 : ∀ ax, k0_off2 L a1 b ax + S8192.size ax ≤ S8388608.size ax)
    (e0 : k0_off2 L a0 b 0 = upAt (cOf L) (sOf L) (k, 0)) (e1 : k0_off2 L a1 b 0 = upAt (cOf L) (sOf L) (k, 1)) :
    BlendedAt fu ((chunk L oV a0 b h0).view.read (Elt F) (outV fu X)) ((chunk L oV a1 b h1).view.read (Elt F) (outV fu X))
      ((chunk L xV a0 b h0).view.read (Elt F) X) ((chunk L xV a1 b h1).view.read (Elt F) X) := by
  have key : ∀ y : S8192.Idx, ∃ n, n < 2097152 ∧ n % 16 = (y 0).val % 16 ∧ k0_off2 L a0 b 0 + (y 0).val = n + 4194304 ∧ k0_off2 L a1 b 0 + (y 0).val = n + 6291456 := by
    intro y
    have hy : (y 0).val < 8192 := (y 0).isLt
    have hs : (sOf L).val < 16 := (sOf L).isLt
    have hc : (cOf L).val < 2 := (cOf L).isLt
    rw [e0, e1]
    refine ⟨131072 * (sOf L).val + 65536 * (cOf L).val + 8192 * k.val + (y 0).val, ?_, ?_, ?_, ?_⟩ <;> simp only [upAt] <;> first | omega | (show _ + 2097152 * 1 + _ + _ + _ + _ = _; omega)
  constructor <;> funext y <;> obtain ⟨n, hn, hl, q0, q1⟩ := key y
  · refine (readO_slice _ _ h0 _ (n + 4194304) (by omega) y q0).trans ?_
    rw [outV_mid fu X n hn _ (by omega), lanes_lane n y hl, ← readX_slice _ _ h0 X (n + 4194304) (by omega) y q0,
      ← readX_slice _ _ h1 X (n + 6291456) (by omega) y q1]
    rfl
  · refine (readO_slice _ _ h1 _ (n + 6291456) (by omega) y q1).trans ?_
    rw [outV_high fu X n hn (by omega) _, lanes_lane n y hl, ← readX_slice _ _ h0 X (n + 4194304) (by omega) y q0,
      ← readX_slice _ _ h1 X (n + 6291456) (by omega) y q1]
    rfl

/-- The contents the kernel leaves carry the blends of every task. -/
theorem blended (fu : S4x16.Idx → F .f32) (X : S8388608.Idx → F .f32) : Blended L fu X (outV fu X) :=
  ⟨blended_at L fu X 0 _ _ _ _ _ (k0_off2_at L 0 0) (k0_off2_at L 1 0),
    blended_at L fu X 1 _ _ _ _ _ (k0_off2_at L 0 1) (k0_off2_at L 1 1),
    blended_at L fu X 2 _ _ _ _ _ (k0_off2_at L 0 2) (k0_off2_at L 1 2),
    blended_at L fu X 3 _ _ _ _ _ (k0_off2_at L 0 3) (k0_off2_at L 1 3),
    blended_at L fu X 4 _ _ _ _ _ (k0_off2_at L 0 4) (k0_off2_at L 1 4),
    blended_at L fu X 5 _ _ _ _ _ (k0_off2_at L 0 5) (k0_off2_at L 1 5),
    blended_at L fu X 6 _ _ _ _ _ (k0_off2_at L 0 6) (k0_off2_at L 1 6),
    blended_at L fu X 7 _ _ _ _ _ (k0_off2_at L 0 7) (k0_off2_at L 1 7)⟩

/-- A block of the lower half reads the same in the result as in the input. -/
theorem copied_at (fu : S4x16.Idx → F .f32) (X : S8388608.Idx → F .f32) (o o' : Fin 1 → Nat) (h : ∀ ax, o ax + S262144.size ax ≤ S8388608.size ax)
    (h' : ∀ ax, o' ax + S262144.size ax ≤ S8388608.size ax) (j : Nat) (hj : j < 8) (e : o 0 = 2097152 * (cOf L).val + 262144 * j) (e' : o' 0 = 2097152 * (cOf L).val + 262144 * j) :
    (block oV o h).view.read (Elt F) (outV fu X) = (block xV o' h').view.read (Elt F) X := by
  funext y
  have hy : (y 0).val < 262144 := (y 0).isLt
  have hc : (cOf L).val < 2 := (cOf L).isLt
  refine (readO_slice _ _ h _ (2097152 * (cOf L).val + 262144 * j + (y 0).val) (by omega) y (by rw [e])).trans ?_
  rw [outV_low fu X _ _ (by omega)]
  exact (readX_slice _ _ h' X _ _ y (by rw [e'])).symm

/-- And the copies of the first task of every core. -/
theorem copied (fu : S4x16.Idx → F .f32) (X : S8388608.Idx → F .f32) (h : k0_cond1 L = 1#1) : Copied L h X (outV fu X) :=
  ⟨copied_at L fu X _ _ _ _ 0 (by decide) (k0_off4_at L 0) (k0_off1_at L),
    copied_at L fu X _ _ _ _ 1 (by decide) (k0_off6_at L 1) (k0_off4_at L 1),
    copied_at L fu X _ _ _ _ 2 (by decide) (k0_off8_at L 1) (k0_off6_at L 2),
    copied_at L fu X _ _ _ _ 3 (by decide) (k0_off10_at L 1) (k0_off8_at L 2),
    copied_at L fu X _ _ _ _ 4 (by decide) (k0_off12_at L 1) (k0_off10_at L 2),
    copied_at L fu X _ _ _ _ 5 (by decide) (k0_off14_at L 1) (k0_off12_at L 2),
    copied_at L fu X _ _ _ _ 6 (by decide) (k0_off16_at L 1) (k0_off14_at L 2),
    copied_at L fu X _ _ _ _ 7 (by decide) (k0_off18_at L 1) (k0_off16_at L 2)⟩

end Cert.Proof.Gate
-- ==== Proof.Rows.lean ====
/-
  The buffers of two rows taken apart into their rows and put together again, and what the first task of a core holds besides
  the others: the core's blocks of the copied half and its shared buffer.
-/
module

public import proofs.«01_k».proof.Proof.Result

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "shS" => (Memref.whole cc0_scratch5 : Memref sig Kind.scVector Space.shared S2x262144 EltTy.f32)

variable (d : Dev nD) (L : grid0.Coords)

/-! ## A buffer of two rows, row by row -/

theorem pts_two {sp : Space} {s : Shape} (A : Memref sig .scVector sp s .f32) (r0 r1 : Rect s) (hd : Disjoint r0.set r1.set) (hc : r0.set ∪ r1.set = Finset.univ)
    (f : A.view.ty.Contents (Elt F)) :
    (A.view.loc (VT d L) ↦[A.view.set]{fullShare} f : sProp 𝕄)
      ⊢ iprop((A.view.loc (VT d L) ↦[(A.view.slice r0).set]{fullShare} f) ∗ A.view.loc (VT d L) ↦[(A.view.slice r1).set]{fullShare} f) := by
  have e : A.view.set = (A.view.slice r0).set ∪ (A.view.slice r1).set := by
    rw [View.set_slice, View.set_slice, ← Finset.map_union, hc]; rfl
  rw [e]
  refine (pointsTo_union ?_).1
  rw [View.set_slice, View.set_slice]
  exact (Finset.disjoint_map _).mpr hd

theorem pts_two_join {sp : Space} {s : Shape} (A : Memref sig .scVector sp s .f32) (r0 r1 : Rect s) (hd : Disjoint r0.set r1.set) (hc : r0.set ∪ r1.set = Finset.univ)
    (f g : A.view.ty.Contents (Elt F)) :
    iprop((A.view.loc (VT d L) ↦[(A.view.slice r0).set]{fullShare} f) ∗ A.view.loc (VT d L) ↦[(A.view.slice r1).set]{fullShare} g)
      ⊢ (iprop(∃ h : A.view.ty.Contents (Elt F), A.view.loc (VT d L) ↦[A.view.set]{fullShare} h) : sProp 𝕄) := by
  have e : A.view.set = (A.view.slice r0).set ∪ (A.view.slice r1).set := by
    rw [View.set_slice, View.set_slice, ← Finset.map_union, hc]; rfl
  rw [e]
  refine (pointsTo_join ?_).trans ?_
  · rw [View.set_slice, View.set_slice]
    exact (Finset.disjoint_map _).mpr hd
  · exact BI.BIClass.exists_intro (Φ := fun h => (A.view.loc (VT d L) ↦[(A.view.slice r0).set ∪ (A.view.slice r1).set]{fullShare} h : sProp 𝕄)) _

abbrev rowR (o : Fin 2 → Nat) (h : ∀ ax, o ax + S1x8192.size ax ≤ S2x8192.size ax) : Rect S2x8192 := Rect.unit (s := S2x8192) o S1x8192.size h
abbrev rowS (o : Fin 2 → Nat) (h : ∀ ax, o ax + S1x262144.size ax ≤ S2x262144.size ax) : Rect S2x262144 := Rect.unit (s := S2x262144) o S1x262144.size h

theorem rowR_mem (r : Fin 2) (h : ∀ ax, ![r.val, 0] ax + S1x8192.size ax ≤ S2x8192.size ax) (i : S2x8192.Idx) : i ∈ (rowR ![r.val, 0] h).set ↔ (i 0).val = r.val := by
  rw [Rect.mem_set_unit]
  have h1 : (i 1).val < 8192 := (i 1).isLt
  refine ⟨fun h => ?_, fun e a => ?_⟩
  · have := h 0
    change r.val ≤ (i 0).val ∧ (i 0).val < r.val + 1 at this
    omega
  · match a with
    | 0 => show r.val ≤ (i 0).val ∧ (i 0).val < r.val + 1; omega
    | 1 => show 0 ≤ (i 1).val ∧ (i 1).val < 0 + 8192; omega

theorem rowS_mem (r : Fin 2) (h : ∀ ax, ![r.val, 0] ax + S1x262144.size ax ≤ S2x262144.size ax) (i : S2x262144.Idx) : i ∈ (rowS ![r.val, 0] h).set ↔ (i 0).val = r.val := by
  rw [Rect.mem_set_unit]
  have h1 : (i 1).val < 262144 := (i 1).isLt
  refine ⟨fun h => ?_, fun e a => ?_⟩
  · have := h 0
    change r.val ≤ (i 0).val ∧ (i 0).val < r.val + 1 at this
    omega
  · match a with
    | 0 => show r.val ≤ (i 0).val ∧ (i 0).val < r.val + 1; omega
    | 1 => show 0 ≤ (i 1).val ∧ (i 1).val < 0 + 262144; omega

theorem rowR_disj : Disjoint (rowR ![0, 0] inb_S2x8192_S1x8192_0_0).set (rowR ![1, 0] inb_S2x8192_S1x8192_1_0).set :=
  Finset.disjoint_left.mpr fun i h0 h1 => by
    have := (rowR_mem 0 _ i).mp h0
    have := (rowR_mem 1 _ i).mp h1
    omega

theorem rowR_cover : (rowR ![0, 0] inb_S2x8192_S1x8192_0_0).set ∪ (rowR ![1, 0] inb_S2x8192_S1x8192_1_0).set = Finset.univ :=
  Finset.eq_univ_iff_forall.mpr fun i => Finset.mem_union.mpr (by
    have hi : (i 0).val < 2 := (i 0).isLt
    rcases (by omega : (i 0).val = 0 ∨ (i 0).val = 1) with h | h
    · exact .inl ((rowR_mem 0 _ i).mpr h)
    · exact .inr ((rowR_mem 1 _ i).mpr h))

theorem rowS_disj : Disjoint (rowS ![0, 0] inb_S2x262144_S1x262144_0_0).set (rowS ![1, 0] inb_S2x262144_S1x262144_1_0).set :=
  Finset.disjoint_left.mpr fun i h0 h1 => by
    have := (rowS_mem 0 _ i).mp h0
    have := (rowS_mem 1 _ i).mp h1
    omega

theorem rowS_cover : (rowS ![0, 0] inb_S2x262144_S1x262144_0_0).set ∪ (rowS ![1, 0] inb_S2x262144_S1x262144_1_0).set = Finset.univ :=
  Finset.eq_univ_iff_forall.mpr fun i => Finset.mem_union.mpr (by
    have hi : (i 0).val < 2 := (i 0).isLt
    rcases (by omega : (i 0).val = 0 ∨ (i 0).val = 1) with h | h
    · exact .inl ((rowS_mem 0 _ i).mpr h)
    · exact .inr ((rowS_mem 1 _ i).mpr h))

/-- A row's elements are its rectangle's. -/
theorem held_row (A : Memref sig .scVector .vmem S2x8192 .f32) (o : Fin 2 → Nat) (h : ∀ ax, o ax + S1x8192.size ax ≤ S2x8192.size ax) (f : A.view.ty.Contents (Elt F)) :
    (held d L (row A o h) f : sProp 𝕄) = A.view.loc (VT d L) ↦[(A.view.slice (rowR o h)).set]{fullShare} f := by
  unfold held
  have e : (row A o h).view.set = (A.view.slice (rowR o h)).set := by
    show ((A.view.slice (rowR o h)).reshape S8192 squeezes_S1x8192_S8192.numel_eq).set = _
    rw [View.set_reshape]
  rw [e]

theorem held_shRow (o : Fin 2 → Nat) (h : ∀ ax, o ax + S1x262144.size ax ≤ S2x262144.size ax) (f : (shS).view.ty.Contents (Elt F)) :
    (held d L (shRow o h) f : sProp 𝕄) = (shS).view.loc (VT d L) ↦[((shS).view.slice (rowS o h)).set]{fullShare} f := by
  unfold held
  have e : (shRow o h).view.set = ((shS).view.slice (rowS o h)).set := by
    show (((shS).view.slice (rowS o h)).reshape S262144 squeezes_S1x262144_S262144.numel_eq).set = _
    rw [View.set_reshape]
  rw [e]

/-- A whole staging buffer is its two rows. -/
theorem rows_split (A : Memref sig .scVector .vmem S2x8192 .f32) (f : A.view.ty.Contents (Elt F)) :
    (A.view.loc (VT d L) ↦[A.view.set]{fullShare} f : sProp 𝕄) ⊢ rowsAny d L A := by
  refine (pts_two d L A _ _ rowR_disj rowR_cover f).trans ?_
  unfold rowsAny
  iintro ⟨H0, H1⟩
  isplitl [H0]
  · iexists f; iapply (Entails.of_eq (held_row d L A _ _ f).symm); iexact H0
  · iexists f; iapply (Entails.of_eq (held_row d L A _ _ f).symm); iexact H1

theorem rows_join (A : Memref sig .scVector .vmem S2x8192 .f32) :
    (rowsAny d L A : sProp 𝕄) ⊢ iprop(∃ f : A.view.ty.Contents (Elt F), A.view.loc (VT d L) ↦[A.view.set]{fullShare} f) := by
  unfold rowsAny
  iintro ⟨⟨%f, H0⟩, %g, H1⟩
  iapply (pts_two_join d L A _ _ rowR_disj rowR_cover f g)
  isplitl [H0]
  · iapply (Entails.of_eq (held_row d L A _ _ f)); iexact H0
  · iapply (Entails.of_eq (held_row d L A _ _ g)); iexact H1

/-- The shared buffer is its two rows. -/
theorem shared_split (f : Buf (Elt F) (shLoc d (cV L))) : (shLoc d (cV L) ↦{fullShare} f : sProp 𝕄) ⊢ sharedAny d L := by
  have h := pts_two (F := F) d L (shS) _ _ rowS_disj rowS_cover f
  rw [View.set_whole] at h
  refine h.trans ?_
  unfold sharedAny
  iintro ⟨H0, H1⟩
  isplitl [H0]
  · iexists f; iapply (Entails.of_eq (held_shRow d L _ _ f).symm); iexact H0
  · iexists f; iapply (Entails.of_eq (held_shRow d L _ _ f).symm); iexact H1

theorem shared_join : (sharedAny d L : sProp 𝕄) ⊢ iprop(∃ f, shLoc d (cV L) ↦{fullShare} f) := by
  unfold sharedAny
  iintro ⟨⟨%f, H0⟩, %g, H1⟩
  ihave H := (pts_two_join d L (shS) _ _ rowS_disj rowS_cover f g) $$ [H0 H1]
  · isplitl [H0]
    · iapply (Entails.of_eq (held_shRow d L _ _ f)); iexact H0
    · iapply (Entails.of_eq (held_shRow d L _ _ g)); iexact H1
  icases H with ⟨%h, H⟩
  iexists h
  rw [View.set_whole]
  iexact H

/-! ## What the first task of a core holds besides -/

/-- The condition the task branches on says it is the first of its core. -/
theorem cond1_iff : k0_cond1 L = 1#1 ↔ sOf L = 0 :=
  ((show ∀ L : grid0.Coords, k0_cond1 L = 1#1 ↔ (L 1).val = 0 by decide +kernel) L).trans ⟨fun h => Fin.ext h, fun h => congrArg Fin.val h⟩

/-- The SparseCore of number `c`. -/
abbrev scOf (c : Fin 2) : Fin τ.nSC := Fin.castLE (show 2 ≤ τ.nSC from hcore0) c

theorem bigSep_emp' {I : Type} (s : Finset I) : (bigSep s fun _ => iprop(emp)) = (iprop(emp) : sProp 𝕄) := bigSep_emp_const s

/-- The blocks and the shared buffer for the first subcore, nothing for the others. -/
def zr (d : Dev nD) (c : Fin 2) (s : Fin 16) (X : Buf (Elt F) (xLoc d)) (f : Buf (Elt F) (oLoc d)) : sProp 𝕄 :=
  if s = 0 then iprop(loX d c X ∗ loO d c f ∗ ∃ g, shLoc d (scOf c) ↦{fullShare} g) else iprop(emp)

theorem zr_in (X : Buf (Elt F) (xLoc d)) (f : Buf (Elt F) (oLoc d)) : (zr d (cOf L) (sOf L) X f : sProp 𝕄) ⊢ zeroRes d L X f := by
  unfold zr
  by_cases h : k0_cond1 L = 1#1
  · rw [if_pos ((cond1_iff L).mp h), zeroRes_pos d L h, blocks_loX d L h, blocks_loO d L h]
    iintro ⟨Hx, Ho, %g, Hs⟩
    isplitl [Hx]; · iexact Hx
    isplitl [Ho]; · iexact Ho
    iapply (shared_split d L g); iexact Hs
  · rw [if_neg fun e => h ((cond1_iff L).mpr e), zeroRes_neg d L h]

theorem zr_out (X : Buf (Elt F) (xLoc d)) (f : Buf (Elt F) (oLoc d)) : (zeroRes d L X f : sProp 𝕄) ⊢ zr d (cOf L) (sOf L) X f := by
  unfold zr
  by_cases h : k0_cond1 L = 1#1
  · rw [if_pos ((cond1_iff L).mp h), zeroRes_pos d L h, blocks_loX d L h, blocks_loO d L h]
    iintro ⟨Hx, Ho, Hs⟩
    isplitl [Hx]; · iexact Hx
    isplitl [Ho]; · iexact Ho
    iapply (shared_join d L); iexact Hs
  · rw [if_neg fun e => h ((cond1_iff L).mpr e), zeroRes_neg d L h]

/-- Over the subcores of a core, it is the first one's. -/
theorem zr_all (c : Fin 2) (X : Buf (Elt F) (xLoc d)) (f : Buf (Elt F) (oLoc d)) :
    (bigSep Finset.univ fun s : Fin 16 => zr d c s X f : sProp 𝕄)
      = iprop(loX d c X ∗ loO d c f ∗ ∃ g, shLoc d (scOf c) ↦{fullShare} g) := by
  rw [SparseCore.bigSep_erase' (Finset.mem_univ (0 : Fin 16)),
    show (bigSep (Finset.univ.erase (0 : Fin 16)) fun s => zr d c s X f : sProp 𝕄) = bigSep (Finset.univ.erase (0 : Fin 16)) fun _ => iprop(emp) from
      bigSep_congr fun s hs => if_neg (Finset.mem_erase.mp hs).1,
    bigSep_emp']
  exact (equiv_iff.mp sep_emp).trans (if_pos rfl)

end Cert.Proof.Gate
-- ==== Proof.Run.lean ====
/-
  The kernel's run: what the launch hands each core and each core each task, the call's place in @main, and the launch
  theorem. It says where the output ends, over any float values.
-/
module

public import proofs.«01_k».proof.Proof.Rows

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.StableHlo (wp_hlo_within)

variable {F : FTy → Type}

local notation "𝕄" => MT nD τ sig (HIx 1) (Elt F) ℕ UU ℕ

local notation "xV" => (Memref.whole main_arg0_scv : Memref sig Kind.scVector Space.hbm S8388608 EltTy.f32)
local notation "uV" => (Memref.whole main_v3_scv : Memref sig Kind.scVector Space.hbm S4x16 EltTy.f32)
local notation "oV" => (Memref.whole main_v4_scv : Memref sig Kind.scVector Space.hbm S8388608 EltTy.f32)
local notation "uS" => (Memref.whole cc0_scratch0 : Memref sig Kind.scVector Space.vmem S4x16 EltTy.f32)
local notation "a0S" => (Memref.whole cc0_scratch1 : Memref sig Kind.scVector Space.vmem S2x8192 EltTy.f32)
local notation "a1S" => (Memref.whole cc0_scratch2 : Memref sig Kind.scVector Space.vmem S2x8192 EltTy.f32)
local notation "o0S" => (Memref.whole cc0_scratch3 : Memref sig Kind.scVector Space.vmem S2x8192 EltTy.f32)
local notation "o1S" => (Memref.whole cc0_scratch4 : Memref sig Kind.scVector Space.vmem S2x8192 EltTy.f32)
local notation "shS" => (Memref.whole cc0_scratch5 : Memref sig Kind.scVector Space.shared S2x262144 EltTy.f32)

variable [FloatOps F]
variable (m : (ℓ : Loc nD τ sig) → Buf (Elt F) ℓ) (ρ : Dev nD → PrngReg)

theorem nSub_zero : (K (F := F)).nSub 0 = 16 := rfl
theorem nCore_zero : (K (F := F)).nCore 0 = 2 := rfl

/-! ## The four operations before the call -/

abbrev op0 : HloOp τ sig (Elt F) := StableHlo.reshape main_arg1 main_v0 (rfl : (.f32 : EltTy) = .f32) shapeCasts_S2x2_S4x1
abbrev op1 : HloOp τ sig (Elt F) := StableHlo.reshape main_v0 main_v1 (rfl : (.f32 : EltTy) = .f32) shapeCasts_S4x1_S1x4x1x1
abbrev op2 : HloOp τ sig (Elt F) := StableHlo.unary main_v1 main_v2 (broadcastInDim S1x4x16x1 ![0, 1, 2, 3] bcast_S1x4x1x1_S1x4x16x1_0_1_2_3 :
  (⟨S1x4x1x1, .f32⟩ : BufTy).Contents (Elt F) → (⟨S1x4x16x1, .f32⟩ : BufTy).Contents (Elt F))
abbrev op3 : HloOp τ sig (Elt F) := StableHlo.reshape main_v2 main_v3 (rfl : (.f32 : EltTy) = .f32) shapeCasts_S1x4x16x1_S4x16

abbrev devR (b : Ref sig .tc) : DevRef τ sig := Proc.devRef .tc b

abbrev S7 : Finset (DevRef τ sig) := {devR main_arg0, devR main_arg1, devR main_v0, devR main_v1, devR main_v2, devR main_v3, devR main_v4}

def V0 (d : Dev nD) : Valuation τ sig (Elt F) := fun b => m (d, b)
/-- The arrays when the call is made. -/
def V4 (d : Dev nD) : Valuation τ sig (Elt F) := (op3 (F := F)).result ((op2 (F := F)).result ((op1 (F := F)).result ((op0 (F := F)).result (V0 m d))))

theorem V4_of (d : Dev nD) (b : DevRef τ sig) (h0 : b ∉ ({devR main_v0} : Finset (DevRef τ sig))) (h1 : b ∉ ({devR main_v1} : Finset (DevRef τ sig)))
    (h2 : b ∉ ({devR main_v2} : Finset (DevRef τ sig))) (h3 : b ∉ ({devR main_v3} : Finset (DevRef τ sig))) : V4 m d b = m (d, b) := by
  unfold V4
  rw [(op3 (F := F)).result_of_not_mem _ h3, (op2 (F := F)).result_of_not_mem _ h2, (op1 (F := F)).result_of_not_mem _ h1,
    (op0 (F := F)).result_of_not_mem _ h0]
  rfl

/-- The table of coefficients the call is given. -/
def coef (d : Dev nD) : S4x16.Idx → F .f32 := V4 m d (devR main_v3)

/-- What the call leaves in the output. -/
def outM (d : Dev nD) : Buf (Elt F) (oLoc d) := outV (coef m d) (m (xLoc d))

/-! ## What the handshakes carry -/

/-- The share of the coefficients the task at `(c, s)` reads. -/
abbrev uq (c : Fin 2) (s : Fin 16) : PosShare TreeShare := Transfers.shareTok (Transfers.shareTok fullShare 2 c) 16 s

abbrev stP (d : Dev nD) (c : Fin 2) : sProp 𝕄 :=
  iprop((bigSep Finset.univ fun s => uLoc d ↦{uq c s} coef m d) ∗ (bigSep Finset.univ fun s => upX d c s (m (xLoc d))) ∗ loX d c (m (xLoc d))
    ∗ (bigSep Finset.univ fun s => upO d c s (m (oLoc d))) ∗ loO d c (m (oLoc d)))
abbrev dnP (d : Dev nD) (c : Fin 2) : sProp 𝕄 :=
  iprop((bigSep Finset.univ fun s => upX d c s (m (xLoc d))) ∗ loX d c (m (xLoc d))
    ∗ (bigSep Finset.univ fun s => upO d c s (outM m d)) ∗ loO d c (outM m d))
abbrev goP (d : Dev nD) (c : Fin 2) (s : Fin 16) : sProp 𝕄 :=
  iprop((uLoc d ↦{uq c s} coef m d) ∗ upX d c s (m (xLoc d)) ∗ upO d c s (m (oLoc d)) ∗ zr d c s (m (xLoc d)) (m (oLoc d)))
abbrev tdP (d : Dev nD) (c : Fin 2) (s : Fin 16) : sProp 𝕄 :=
  iprop(upX d c s (m (xLoc d)) ∗ upO d c s (outM m d) ∗ zr d c s (m (xLoc d)) (outM m d))

/-- Each core takes its part of the input, of the output and a share of the coefficients, each task its own part of these;
    the output's come back at what the call leaves. -/
def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance zr_storable (d : Dev nD) (c : Fin 2) (s : Fin 16) (X : Buf (Elt F) (xLoc d)) (f : Buf (Elt F) (oLoc d)) :
    BI.Storable (upEmb : UEmb _ 𝕄) (zr d c s X f) := by
  unfold zr
  split <;> infer_instance

instance P_storable : (P (F := F) m).IsStorable where
  st q d c := match q with | 0 => (inferInstance : BI.Storable (upEmb : UEmb _ 𝕄) (stP m d (Fin.cast nCore_zero c)))
  dn q d c := match q with | 0 => (inferInstance : BI.Storable (upEmb : UEmb _ 𝕄) (dnP m d (Fin.cast nCore_zero c)))
  go q d c i := match q with | 0 => (inferInstance : BI.Storable (upEmb : UEmb _ 𝕄) (goP m d (Fin.cast nCore_zero c) (Fin.cast nSub_zero i)))
  td q d c i := match q with | 0 => (inferInstance : BI.Storable (upEmb : UEmb _ 𝕄) (tdP m d (Fin.cast nCore_zero c) (Fin.cast nSub_zero i)))

/-! ## The task -/

section Tile

variable (d : Dev nD) (L : grid0.Coords)

theorem buf_rows (A : Memref sig .scVector .vmem S2x8192 .f32) (hA : A.view.set = Finset.univ) :
    (iprop(∃ f : A.view.ty.Contents (Elt F), A.view.loc (VT d L) ↦{fullShare} f) : sProp 𝕄) ⊢ rowsAny d L A := by
  iintro ⟨%f, H⟩
  iapply (rows_split d L A f)
  rw [hA]
  iexact H

theorem rows_buf (A : Memref sig .scVector .vmem S2x8192 .f32) (hA : A.view.set = Finset.univ) :
    (rowsAny d L A : sProp 𝕄) ⊢ iprop(∃ f : A.view.ty.Contents (Elt F), A.view.loc (VT d L) ↦{fullShare} f) := by
  refine (rows_join d L A).trans ?_
  rw [hA]

set_option maxHeartbeats 1000000 in
theorem tile_body (hF : (K (F := F)).Facts) (O : CellTallies nD τ sig (HIx 1)) (W : Waits sig (HIx 1)) (hO : ∀ g, O g none = 0) :
    iprop(levAts (K (F := F)).L (K (F := F)).lev ∗ emp ∗ goP m d (cOf L) (sOf L)
        ∗ scopedBufs (VT d L) ∗ scopedSems0 (VT d L) ∗ owes (VT d L) O W)
      ⊢ wp frame (wpE (defs₀ (F := F)) 𝒱₀ (VT d L) none) Set.univ
          (cc0__cgate L xV (Memref.isWhole_whole _) uV (Memref.isWhole_whole _) oV (Memref.isWhole_whole _) uS (Memref.isWhole_whole _)
            a0S (Memref.isWhole_whole _) a1S (Memref.isWhole_whole _) o0S (Memref.isWhole_whole _) o1S (Memref.isWhole_whole _) shS (Memref.isWhole_whole _)
            cc0_scratch6 cc0_scratch7 cc0_scratch8 cc0_scratch9 cc0_scratch10 cc0_scratch11 cc0_scratch12 cc0_scratch13 cc0_scoped0)
          fun _ => iprop(tdP m d (cOf L) (sOf L) ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hu, Hx, Ho, Hz⟩, ⟨⟨Hb0, Hb1, Hb2, Hb3, Hb4⟩, Hbr⟩, ⟨Hsems, Hsr⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitr [Hbr Hsr]
  · iapply (tile_core d L O W (uq (cOf L) (sOf L)) (coef m d) (m (xLoc d)) (m (oLoc d)) (outM m d) (blended L _ _) (copied L _ _))
    isplitl [Hu]; · iexact Hu
    isplitl [Hx]; · iapply (Entails.of_eq (chunks_upX d L _).symm); iexact Hx
    isplitl [Ho]; · iapply (Entails.of_eq (chunks_upO d L _).symm); iexact Ho
    isplitl [Hz]; · iapply (zr_in d L _ _); iexact Hz
    isplitl [Hb0]; · iexact Hb0
    isplitl [Hb1]; · iapply (buf_rows d L a0S (View.set_whole _)); iexact Hb1
    isplitl [Hb2]; · iapply (buf_rows d L a1S (View.set_whole _)); iexact Hb2
    isplitl [Hb3]; · iapply (buf_rows d L o0S (View.set_whole _)); iexact Hb3
    isplitl [Hb4]; · iapply (buf_rows d L o1S (View.set_whole _)); iexact Hb4
    isplitl [Hsems]; · iexact Hsems
    isplitr; · iexact Hmw
    iexact HO
  iintro %_ ⟨-, Hx, Ho, Hz, Hb0, Hb1, Hb2, Hb3, Hb4, Hsems, HO⟩
  isplitl [Hx Ho Hz]
  · isplitl [Hx]; · iapply (Entails.of_eq (chunks_upX d L _)); iexact Hx
    isplitl [Ho]; · iapply (Entails.of_eq (chunks_upO d L _)); iexact Ho
    iapply (zr_out d L _ _); iexact Hz
  isplitl [Hb0 Hb1 Hb2 Hb3 Hb4 Hbr]
  · isplitr [Hbr]; swap; · iexact Hbr
    isplitl [Hb0]; · iexact Hb0
    isplitl [Hb1]; · iapply (rows_buf d L a0S (View.set_whole _)); iexact Hb1
    isplitl [Hb2]; · iapply (rows_buf d L a1S (View.set_whole _)); iexact Hb2
    isplitl [Hb3]; · iapply (rows_buf d L o0S (View.set_whole _)); iexact Hb3
    iapply (rows_buf d L o1S (View.set_whole _)); iexact Hb4
  isplitl [Hsems Hsr]
  · isplitl [Hsems]; · iexact Hsems
    iexact Hsr
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__cgate (coordsV c s)
          xV (Memref.isWhole_whole _) uV (Memref.isWhole_whole _) oV (Memref.isWhole_whole _) uS (Memref.isWhole_whole _)
            a0S (Memref.isWhole_whole _) a1S (Memref.isWhole_whole _) o0S (Memref.isWhole_whole _) o1S (Memref.isWhole_whole _) shS (Memref.isWhole_whole _)
            cc0_scratch6 cc0_scratch7 cc0_scratch8 cc0_scratch9 cc0_scratch10 cc0_scratch11 cc0_scratch12 cc0_scratch13 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono Idealize.ShloMosaic.frame _ _ fun _ => obl_post)

end Tile

/-! ## A core's part dealt to its tasks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared buffer is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (SparseCore.Cfg.mem_ownRefs (p := Proc.scScalar c) (b := shRef c)).mpr rfl
  exact SparseCore.bigSep_erase' h

theorem go_all (d : Dev nD) (c : Fin 2) :
    (bigSep Finset.univ fun s => goP m d c s : sProp 𝕄)
      = iprop((bigSep Finset.univ fun s => uLoc d ↦{uq c s} coef m d) ∗ (bigSep Finset.univ fun s => upX d c s (m (xLoc d)))
        ∗ (bigSep Finset.univ fun s => upO d c s (m (oLoc d))) ∗ loX d c (m (xLoc d)) ∗ loO d c (m (oLoc d)) ∗ ∃ g, shLoc d (scOf c) ↦{fullShare} g) := by
  rw [← zr_all, ← bigSep_sep', ← bigSep_sep', ← bigSep_sep']

theorem td_all (d : Dev nD) (c : Fin 2) :
    (bigSep Finset.univ fun s => tdP m d c s : sProp 𝕄)
      = iprop((bigSep Finset.univ fun s => upX d c s (m (xLoc d)))
        ∗ (bigSep Finset.univ fun s => upO d c s (outM m d)) ∗ loX d c (m (xLoc d)) ∗ loO d c (outM m d) ∗ ∃ g, shLoc d (scOf c) ↦{fullShare} g) := by
  rw [← zr_all, ← bigSep_sep', ← bigSep_sep']

theorem vecSplit : (K (F := F)).VecSplit (P m) 0 := by
  intro d c
  show iprop(stP m d (Fin.cast nCore_zero c) ∗ ownBufs (S d (scOf (Fin.cast nCore_zero c)))) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ iprop(dnP m d (Fin.cast nCore_zero c) ∗ ownBufs (S d (scOf (Fin.cast nCore_zero c))))))
  rw [bigSep_tasks (F := F) (fun i => goP m d (Fin.cast nCore_zero c) i), bigSep_tasks (F := F) (fun i => tdP m d (Fin.cast nCore_zero c) i),
    go_all, td_all, ownBufs_S]
  iintro ⟨⟨Hu, Hx, Hlx, Ho, Hlo⟩, Hsh, Hrest⟩; imodintro
  isplitr [Hrest]
  · isplitl [Hu]; · iexact Hu
    isplitl [Hx]; · iexact Hx
    isplitl [Ho]; · iexact Ho
    isplitl [Hlx]; · iexact Hlx
    isplitl [Hlo]; · iexact Hlo
    iexact Hsh
  iintro ⟨Hx, Ho, Hlx, Hlo, Hsh⟩
  isplitr [Hsh Hrest]
  · isplitl [Hx]; · iexact Hx
    isplitl [Hlx]; · iexact Hlx
    isplitl [Ho]; · iexact Ho
    iexact Hlo
  isplitl [Hsh]; · iexact Hsh
  iexact Hrest

/-! ## The launch element of the certificate's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem held_S7 (d : Dev nD) (W : Valuation τ sig (Elt F)) :
    (StableHlo.held (SparseCore.T d) S7 W : sProp 𝕄)
      = iprop((xLoc d ↦{fullShare} W (devR main_arg0)) ∗ (yLoc d ↦{fullShare} W (devR main_arg1)) ∗ ((SparseCore.T d).loc main_v0 ↦{fullShare} W (devR main_v0))
          ∗ ((SparseCore.T d).loc main_v1 ↦{fullShare} W (devR main_v1)) ∗ ((SparseCore.T d).loc main_v2 ↦{fullShare} W (devR main_v2))
          ∗ (uLoc d ↦{fullShare} W (devR main_v3)) ∗ oLoc d ↦{fullShare} W (devR main_v4)) := by
  unfold StableHlo.held S7
  iterate 6 rw [SparseCore.bigSep_insert' (by decide)]
  rw [bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (yLoc d ↦{fullShare} W main_arg1) ∗ ((SparseCore.T d).loc main_v0 ↦{fullShare} W main_v0)
          ∗ ((SparseCore.T d).loc main_v1 ↦{fullShare} W main_v1) ∗ ((SparseCore.T d).loc main_v2 ↦{fullShare} W main_v2)
          ∗ (uLoc d ↦{fullShare} W main_v3) ∗ oLoc d ↦{fullShare} W main_v4) := by
  unfold unscopedBufs
  rw [show (Finset.univ.filter fun b : Ref sig .tc => ¬ b.isScoped) = {main_arg0, main_arg1, main_v0, main_v1, main_v2, main_v3, main_v4} by decide]
  iterate 6 rw [SparseCore.bigSep_insert' (by decide)]
  rw [bigSep_singleton]

theorem unscoped_held (d : Dev nD) : (unscopedBufs d (fun b => m ((SparseCore.T d).loc b)) : sProp 𝕄) = StableHlo.held (SparseCore.T d) S7 (V0 m d) := by
  rw [unscopedBufs_eq, held_S7]; rfl

theorem held_V4 (d : Dev nD) :
    (StableHlo.held (SparseCore.T d) S7 (V4 m d) : sProp 𝕄)
      = iprop((xLoc d ↦{fullShare} m (xLoc d)) ∗ (yLoc d ↦{fullShare} m (yLoc d)) ∗ ((SparseCore.T d).loc main_v0 ↦{fullShare} V4 m d (devR main_v0))
          ∗ ((SparseCore.T d).loc main_v1 ↦{fullShare} V4 m d (devR main_v1)) ∗ ((SparseCore.T d).loc main_v2 ↦{fullShare} V4 m d (devR main_v2))
          ∗ (uLoc d ↦{fullShare} coef m d) ∗ oLoc d ↦{fullShare} m (oLoc d)) := by
  rw [held_S7, V4_of m d (devR main_arg0) (by decide) (by decide) (by decide) (by decide),
    V4_of m d (devR main_arg1) (by decide) (by decide) (by decide) (by decide),
    V4_of m d (devR main_v4) (by decide) (by decide) (by decide) (by decide)]
  rfl

/-- The coefficients dealt: a share to each task of each core (what is left over is dropped). -/
theorem u_deal (d : Dev nD) (f : Buf (Elt F) (uLoc d)) :
    (uLoc d ↦{fullShare} f : sProp 𝕄) ⊢ bigSep Finset.univ fun c : Fin 2 => bigSep Finset.univ fun s : Fin 16 => uLoc d ↦{uq c s} f :=
  ((Transfers.pointsTo_toks_split fullShare 2).trans sep_elim_right).trans
    (SparseCore.ent (bigSep_mono fun _ _ => ((Transfers.pointsTo_toks_split _ 16).trans sep_elim_right)))

theorem st0_eq (d : Dev nD) : (bigSep Finset.univ fun c : Fin ((K (F := F)).nCore 0) => (P m).st 0 d c)
    = iprop((bigSep Finset.univ fun c : Fin 2 => bigSep Finset.univ fun s : Fin 16 => uLoc d ↦{uq c s} coef m d)
      ∗ (bigSep Finset.univ fun c => bigSep Finset.univ fun s => upX d c s (m (xLoc d))) ∗ (bigSep Finset.univ fun c => loX d c (m (xLoc d)))
      ∗ (bigSep Finset.univ fun c => bigSep Finset.univ fun s => upO d c s (m (oLoc d))) ∗ bigSep Finset.univ fun c => loO d c (m (oLoc d))) := by
  refine (bigSep_cores (F := F) (fun c => stP m d c)).trans ?_
  rw [bigSep_sep', bigSep_sep', bigSep_sep', bigSep_sep']

theorem dn0_eq (d : Dev nD) : (bigSep Finset.univ fun c : Fin ((K (F := F)).nCore 0) => (P m).dn 0 d c)
    = iprop((bigSep Finset.univ fun c => bigSep Finset.univ fun s => upX d c s (m (xLoc d))) ∗ (bigSep Finset.univ fun c => loX d c (m (xLoc d)))
      ∗ (bigSep Finset.univ fun c => bigSep Finset.univ fun s => upO d c s (outM m d)) ∗ bigSep Finset.univ fun c => loO d c (outM m d)) := by
  refine (bigSep_cores (F := F) (fun c => dnP m d c)).trans ?_
  rw [bigSep_sep', bigSep_sep', bigSep_sep']

theorem hop0 : (op0 (F := F)).bufs ⊆ S7 := show ({devR main_arg1, devR main_v0} : Finset (DevRef τ sig)) ⊆ S7 by decide
theorem hop1 : (op1 (F := F)).bufs ⊆ S7 := show ({devR main_v0, devR main_v1} : Finset (DevRef τ sig)) ⊆ S7 by decide
theorem hop2 : (op2 (F := F)).bufs ⊆ S7 := show ({devR main_v1, devR main_v2} : Finset (DevRef τ sig)) ⊆ S7 by decide
theorem hop3 : (op3 (F := F)).bufs ⊆ S7 := show ({devR main_v2, devR main_v3} : Finset (DevRef τ sig)) ⊆ S7 by decide

abbrev FIN (d : Dev nD) : sProp 𝕄 := iprop((xLoc d ↦{fullShare} m (xLoc d)) ∗ (yLoc d ↦{fullShare} m (yLoc d)) ∗ oLoc d ↦{fullShare} outM m d)

/-- @main on device `d`'s TensorCore: the four operations make the table of coefficients; the call takes it, the input and
    the output, and leaves the output at what it computes; both arguments are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S7) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S7) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S7) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S7) hop3
    (V := (op2 (F := F)).result ((op1 (F := F)).result ((op0 (F := F)).result (V0 m d))))) $$ [Hb Hheld]
  · isplitl [Hb] <;> iassumption
  iintro ⟨Hb, Hheld⟩
  rw [wp_ret]; imodintro
  ihave Hh := (show StableHlo.held (SparseCore.T d) S7 ((op3 (F := F)).result ((op2 (F := F)).result ((op1 (F := F)).result ((op0 (F := F)).result (V0 m d))))) ⊢ _ from
    Entails.of_eq (held_V4 (F := F) m d)) $$ Hheld
  icases Hh with ⟨Hx, Hy, -, -, -, Hu, Ho⟩
  ihave Hx := (Entails.of_eq (x_pieces d _)) $$ Hx
  icases Hx with ⟨Hx, Hlx⟩
  ihave Ho := (Entails.of_eq (o_pieces d _)) $$ Ho
  icases Ho with ⟨Ho, Hlo⟩
  ihave Hu := (u_deal d _) $$ Hu
  iapply ((K (F := F)).wp_run (D (F := F)) 𝒱 (EH := EH) (P := P m) κ d 0) $$ [Hst Hx Hlx Ho Hlo Hu Hy Hb Hts]
  isplitr; · iexact Hctx
  isplitl [Hst]; · iexact Hst
  isplitl [Hx Hlx Ho Hlo Hu]
  · rw [st0_eq]
    isplitl [Hu]; · iexact Hu
    isplitl [Hx]; · iexact Hx
    isplitl [Hlx]; · iexact Hlx
    isplitl [Ho]; · iexact Ho
    iexact Hlo
  iintro ⟨Hst, Hdn⟩
  ihave Hdn' := (Entails.of_eq (dn0_eq m d)) $$ Hdn
  icases Hdn' with ⟨Hx, Hlx, Ho, Hlo⟩
  imodintro
  isplitl [Hst]; · iexact Hst
  isplitr [Hb Hts]
  · isplitl [Hx Hlx]
    · iapply (Entails.of_eq (x_pieces d _).symm)
      isplitl [Hx] <;> iassumption
    isplitl [Hy]; · iexact Hy
    iapply (Entails.of_eq (o_pieces d _).symm)
    isplitl [Ho] <;> iassumption
  isplitl [Hb] <;> iassumption

def fq (d : Dev nD) (s' : Phys nD τ sig (Elt F)) : Prop :=
  s'.mem.mem (oLoc d) = outM m d ∧ s'.mem.mem (xLoc d) = m (xLoc d) ∧ s'.mem.mem (yLoc d) = m (yLoc d)

set_option maxRecDepth 16384 in
theorem hfin (d : Dev nD) (s' : Phys nD τ sig (Elt F)) : iprop(FIN m d ∗ SI s') ⊢ (⌜fq m d s'⌝ : sProp 𝕄) := by
  iintro ⟨⟨Hx, Hy, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%h2, HSI, -⟩
  ihave H := (SI_pointsTo_agree (st := s') (ℓ := oLoc d) (I := Finset.univ) (q := fullShare) (f := outM m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = outM m c ∧ r.2.mem (xLoc c) = m (xLoc c) ∧ r.2.mem (yLoc c) = m (yLoc c)) ∧ r.2.sem = fun _ => 0

/-- Every weakly fair run of the kernel's program ends with the output at what the call leaves, the arguments unchanged and
    every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Gate
-- ==== Proof.RefValue.lean ====
/-
  What the reference computes, element by element: the two index arrays are the numbers of the two upper quarters, a take reads
  the element of that number, and each scatter writes one quarter and leaves the rest.
-/
module

public import proofs.«01_k».proof.Proof.Gen.ReferenceIdeal.Run
public import Idealize.ShloMosaic.Lib.Routing.OpsSet
public import Idealize.ShloMosaic.Lib.ReduceAll
public import Idealize.ShloMosaic.Lib.StableHlo.Predicate

@[expose] public section

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.ValueIdx (ix1 ix2 eq_ix1)
open Idealize.ShloMosaic.StableHlo.Predicate (slt_iff_toNat sge_iff_toNat sle_iff_toNat toInt_ofNat_small)

variable {F : FTy → Type} [FloatOps F]

/-! ## The pieces of the term -/

/-- A word at every position. -/
abbrev all (w : BitVec 32) : IVec S2097152 32 := broadcastInDim S2097152 ![] bcast_S_S2097152 (constantI S_ 32 w)

/-- The positions with a zero bit put in at bit 21. -/
def pos21 : IVec S2097152 32 :=
  ori (Host.shli (Host.shrsi (iotaInDim S2097152 32 0) (all 21#32)) (all 22#32)) (andi (iotaInDim S2097152 32 0) (all 2097151#32))
/-- The numbers the first scatter writes: a zero bit put in at bit 22, and then that bit set. -/
def idx0 : IVec S2097152 32 :=
  ori (ori (Host.shli (Host.shrsi pos21 (all 22#32)) (all 23#32)) (andi pos21 (all 4194303#32))) (all 4194304#32)
/-- The numbers the second scatter writes: bit 21 set too. -/
def idx1 : IVec S2097152 32 := ori idx0 (all 2097152#32)

/-- An array of numbers as a column, a negative one counted from the end. -/
def column (w : IVec S2097152 32) : IVec S2097152x1 32 :=
  broadcastInDim S2097152x1 ![0] bcast_S2097152_S2097152x1_0 (select (cmpi .slt w (all 0#32)) (addi w (all 8388608#32)) w)

/-- The elements of `x` of these numbers, a NaN where a number is out of range. -/
def taken (x : S8388608.Idx → F .f32) (w : IVec S2097152 32) : S2097152.Idx → F .f32 :=
  select (Host.reduce IntOp.andi (andi (cmpi .sge (column w) (broadcastInDim S2097152x1 ![] bcast_S_S2097152x1 (constantI S_ 32 0#32)))
      (cmpi .sle (column w) (broadcastInDim S2097152x1 ![0, 1] bcast_S1x1_S2097152x1_0_1 (broadcastInDim S1x1 ![1] bcast_S1_S1x1_1 (constantI S1 32 8388607#32)))))
      (constantI S_ 1 1#1) reducesTo_S2097152x1_S2097152_d1 h_S_)
    (Host.gather gather_S8388608_S2097152x1_S2097152_n_0_n_n_0_1_1 x (column w))
    (broadcastInDim S2097152 ![] bcast_S_S2097152 (constant S_ .f32 0x7FC00000#32))

/-- The scatter of `u` at these numbers. -/
def put (x : S8388608.Idx → F .f32) (w : IVec S2097152 32) (u : S2097152.Idx → F .f32) : S8388608.Idx → F .f32 :=
  Host.scatter scatter_S8388608_S2097152x1_S2097152_n_0_0_1 (fun _ b => b) x (column w) u

/-- One entry of the gate at every position. -/
abbrev entry (o : Fin 2 → Nat) (h : S2x2.Slices o S1x1) (y : S2x2.Idx → F .f32) : S2097152.Idx → F .f32 :=
  broadcastInDim S2097152 ![] bcast_S_S2097152 (shapeCast S_ (extractStridedSlice S1x1 o y h) shapeCasts_S1x1_S_)

/-- What the reference computes from the state `x` and the gate `y`. -/
def outR (x : S8388608.Idx → F .f32) (y : S2x2.Idx → F .f32) : S8388608.Idx → F .f32 :=
  put (put x idx0 (addf (mulf (entry ![0, 0] slices_S2x2_S1x1_0_0 y) (taken x idx0)) (mulf (entry ![0, 1] slices_S2x2_S1x1_0_1 y) (taken x idx1)))) idx1
    (addf (mulf (entry ![1, 0] slices_S2x2_S1x1_1_0 y) (taken x idx0)) (mulf (entry ![1, 1] slices_S2x2_S1x1_1_1 y) (taken x idx1)))

theorem res_eq (m : (ℓ : Loc nD τ sig) → Buf (Elt F) ℓ) (c : Dev nD) :
    res_out0 m c = outR (m ((c.tc : Thread nD τ).loc main_arg0)) (m ((c.tc : Thread nD τ).loc main_arg1)) := rfl

/-! ## The numbers -/

theorem toNat_ofNat_lt {p : Nat} (h : p < 8388608) : (BitVec.ofNat 32 p).toNat = p := by
  rw [BitVec.toNat_ofNat]; exact Nat.mod_eq_of_lt (by omega)

/-- A zero bit put in at bit `k` of a number below `2 ^ k` changes nothing. -/
theorem insert_small (k : Nat) (hk : k < 31) (p : Nat) (hp : p < 2 ^ k) (hp' : p < 8388608) :
    IntOp.ori (IntOp.shli .host (IntOp.shrsi .host (BitVec.ofNat 32 p) (BitVec.ofNat 32 k)) (BitVec.ofNat 32 (k + 1)))
      (IntOp.andi (BitVec.ofNat 32 p) (BitVec.ofNat 32 (2 ^ k - 1))) = BitVec.ofNat 32 p := by
  have e1 : (BitVec.ofNat 32 k).toNat = k := by rw [BitVec.toNat_ofNat]; exact Nat.mod_eq_of_lt (by omega)
  have e2 : (BitVec.ofNat 32 (k + 1)).toNat = k + 1 := by rw [BitVec.toNat_ofNat]; exact Nat.mod_eq_of_lt (by omega)
  have e3 : (BitVec.ofNat 32 (2 ^ k - 1)).toNat = 2 ^ k - 1 := by
    rw [BitVec.toNat_ofNat]; exact Nat.mod_eq_of_lt (lt_of_le_of_lt (Nat.sub_le _ _) (Nat.pow_lt_pow_right (by decide) (by omega)))
  have hp32 := toNat_ofNat_lt hp'
  have hm : (BitVec.ofNat 32 p).msb = false := BitVec.msb_eq_false_iff_two_mul_lt.mpr (by rw [hp32]; omega)
  have h0 : IntOp.shrsi .host (BitVec.ofNat 32 p) (BitVec.ofNat 32 k) = 0#32 := by
    unfold IntOp.shrsi
    rw [if_pos (by rw [e1]; omega)]
    apply BitVec.eq_of_toNat_eq
    rw [BitVec.sshiftRight', BitVec.toNat_sshiftRight_of_msb_false hm, hp32, e1, Nat.shiftRight_eq_div_pow, Nat.div_eq_of_lt hp]
    rfl
  have h1 : IntOp.shli .host (0#32) (BitVec.ofNat 32 (k + 1)) = 0#32 := by
    unfold IntOp.shli
    rw [if_pos (by rw [e2]; omega)]
    apply BitVec.eq_of_toNat_eq
    simp
  rw [h0, h1]
  apply BitVec.eq_of_toNat_eq
  unfold IntOp.ori IntOp.andi
  rw [BitVec.toNat_or, BitVec.toNat_and, hp32, e3, Nat.and_two_pow_sub_one_of_lt_two_pow hp]
  simp

/-- A bit set above a number adds it. -/
theorem set_bit (k p a : Nat) (hp : p < 2 ^ k) (h : a * 2 ^ k + p < 8388608) :
    IntOp.ori (BitVec.ofNat 32 p) (BitVec.ofNat 32 (a * 2 ^ k)) = BitVec.ofNat 32 (a * 2 ^ k + p) := by
  apply BitVec.eq_of_toNat_eq
  unfold IntOp.ori
  rw [BitVec.toNat_or, toNat_ofNat_lt (by omega), toNat_ofNat_lt (by omega), toNat_ofNat_lt h, Nat.or_comm, Nat.mul_comm,
    Nat.two_pow_add_eq_or_of_lt hp]

theorem pos21_at (i : S2097152.Idx) : pos21 i = BitVec.ofNat 32 (i 0).val :=
  have hi : (i 0).val < 2097152 := (i 0).isLt
  insert_small 21 (by decide) (i 0).val hi (by omega)

theorem idx0_at (i : S2097152.Idx) : idx0 i = BitVec.ofNat 32 (4194304 + (i 0).val) := by
  have hi : (i 0).val < 2097152 := (i 0).isLt
  have e : idx0 i = IntOp.ori (IntOp.ori (IntOp.shli .host (IntOp.shrsi .host (pos21 i) 22#32) 23#32) (IntOp.andi (pos21 i) 4194303#32)) 4194304#32 := rfl
  rw [e, pos21_at]
  refine (congrArg (fun w => IntOp.ori w 4194304#32) (insert_small 22 (by decide) (i 0).val (by omega) (by omega))).trans ?_
  exact set_bit 22 (i 0).val 1 (by omega) (by omega)

theorem idx1_at (i : S2097152.Idx) : idx1 i = BitVec.ofNat 32 (6291456 + (i 0).val) := by
  have hi : (i 0).val < 2097152 := (i 0).isLt
  have e : idx1 i = IntOp.ori (idx0 i) 2097152#32 := rfl
  rw [e, idx0_at]
  apply BitVec.eq_of_toNat_eq
  unfold IntOp.ori
  rw [BitVec.toNat_or, toNat_ofNat_lt (by omega), toNat_ofNat_lt (by omega), toNat_ofNat_lt (by omega)]
  have e2 : (2 ^ 21 * 2 + (i 0).val) ||| (2 ^ 21 * 1) = 2 ^ 21 * 3 + (i 0).val := by
    rw [Nat.two_pow_add_eq_or_of_lt (by omega), Nat.two_pow_add_eq_or_of_lt (by omega), Nat.or_assoc, Nat.or_comm (i 0).val, ← Nat.or_assoc]
    exact congrArg (· ||| (i 0).val) (show 2 ^ 21 * 2 ||| 2 ^ 21 * 1 = 2 ^ 21 * 3 by decide)
  exact e2

/-! ## The column, the take, the scatter -/

section Ops

variable (w : IVec S2097152 32) (b : Nat) (hb : b + 2097152 ≤ 8388608) (hw : ∀ i : S2097152.Idx, w i = BitVec.ofNat 32 (b + (i 0).val))

include hb hw

/-- None is negative, so the column holds the numbers. -/
theorem column_at (p : Fin 2097152) (q : Fin 1) : column w (ix2 p q) = BitVec.ofNat 32 (b + p.val) := by
  have hp := p.isLt
  have e : column w (ix2 p q) = Scalar.select (IntOp.cmpi .slt (w (ix1 p)) 0#32) (IntOp.addi (w (ix1 p)) 8388608#32) (w (ix1 p)) := by
    have e1 : ∀ f : S2097152.Idx → BitVec 32, broadcastInDim S2097152x1 ![0] bcast_S2097152_S2097152x1_0 f (ix2 p q) = f (ix1 p) := fun f =>
      congrArg f (funext fun a => match a with | ⟨0, _⟩ => rfl)
    exact e1 _
  rw [e, hw]
  show Scalar.select (IntOp.cmpi .slt (BitVec.ofNat 32 (b + p.val)) 0#32) _ (BitVec.ofNat 32 (b + p.val)) = _
  unfold Scalar.select
  rw [if_neg]
  intro h
  have h' := (slt_iff_toNat (by rw [toNat_ofNat_lt (by omega)]; omega) (by decide)).1 h
  exact absurd h' (Nat.not_lt_zero _)

/-- None is out of range, so the take is the element. -/
theorem taken_at (x : S8388608.Idx → F .f32) (p : Fin 2097152) (h : b + p.val < 8388608) : taken x w (ix1 p) = x (ix1 ⟨b + p.val, h⟩) := by
  unfold taken
  show Scalar.select (Host.reduce IntOp.andi _ _ reducesTo_S2097152x1_S2097152_d1 h_S_ (ix1 p)) _ _ = _
  rw [Host.reduce_andi_one _ _ _ _ _ rfl]
  · exact Routing.gather_take1 gather_S8388608_S2097152x1_S2097152_n_0_n_n_0_1_1 rfl rfl rfl rfl x (column w) p ⟨b + p.val, h⟩ (column_at w b hb hw p 0) (by decide)
  · intro i
    obtain ⟨p', q', rfl⟩ : ∃ (p' : Fin 2097152) (q' : Fin 1), i = ix2 p' q' := ⟨i 0, i 1, funext fun a => match a with | ⟨0, _⟩ => rfl | ⟨1, _⟩ => rfl⟩
    have hp' := p'.isLt
    show IntOp.andi (IntOp.cmpi .sge (column w (ix2 p' q')) 0#32) (IntOp.cmpi .sle (column w (ix2 p' q')) 8388607#32) = 1#1
    rw [column_at w b hb hw, (sge_iff_toNat (by rw [toNat_ofNat_lt (by omega)]; omega) (by decide)).2 (Nat.zero_le _),
      (sle_iff_toNat (by rw [toNat_ofNat_lt (by omega)]; omega) (by decide)).2 (by
        rw [toNat_ofNat_lt (by omega), show (8388607#32 : BitVec 32).toNat = 8388607 from rfl]; omega)]
    rfl

/-- Update `p` lands at the element of its number. -/
theorem lands (p : Fin 2097152) (x : Fin 8388608) :
    scatter_S8388608_S2097152x1_S2097152_n_0_0_1.resultIdx? (ix1 p) (column w) = some (ix1 x) ↔ b + p.val = x.val := by
  have hp := p.isLt
  have hx := x.isLt
  have hwin : scatter_S8388608_S2097152x1_S2097152_n_0_0_1.window (ix1 p) 0 = 0 := rfl
  have hstart : scatter_S8388608_S2097152x1_S2097152_n_0_0_1.start (ix1 p) (column w) 0 = ((b + p.val : Nat) : Int) := by
    have hs : scatter_S8388608_S2097152x1_S2097152_n_0_0_1.start (ix1 p) (column w) 0 = (column w (ix2 p 0)).toInt := by
      unfold ScatterDims.start
      rw [dif_pos (show (0 : Fin 1) ∈ scatter_S8388608_S2097152x1_S2097152_n_0_0_1.scatterDimsToOperandDims from List.mem_singleton.2 rfl)]
      refine congrArg (fun k => (column w k).toInt) (funext fun a => ?_)
      match a with
      | ⟨0, _⟩ => rfl
      | ⟨1, _⟩ => rfl
    rw [hs, column_at w b hb hw, toInt_ofNat_small _ (by omega)]
  have key : ∀ a : Fin 1, scatter_S8388608_S2097152x1_S2097152_n_0_0_1.start (ix1 p) (column w) a + scatter_S8388608_S2097152x1_S2097152_n_0_0_1.window (ix1 p) a
      = ((b + p.val : Nat) : Int) := fun a => by
    obtain rfl : a = 0 := Subsingleton.elim _ _
    rw [hstart, hwin]; simp
  unfold ScatterDims.resultIdx?
  rw [dif_pos fun a => by
    rw [key a]
    have ha : S8388608.size a = 8388608 := by obtain rfl : a = 0 := Subsingleton.elim _ _; rfl
    rw [ha]; omega]
  constructor
  · intro e
    have e0 := congrArg Fin.val (congrFun (Option.some.inj e) 0)
    have e1 : (scatter_S8388608_S2097152x1_S2097152_n_0_0_1.start (ix1 p) (column w) 0 + scatter_S8388608_S2097152x1_S2097152_n_0_0_1.window (ix1 p) 0).toNat = x.val := e0
    rw [key 0] at e1
    exact e1
  · intro e
    refine congrArg some (funext fun a => Fin.ext ?_)
    match a with
    | ⟨0, _⟩ =>
      show (scatter_S8388608_S2097152x1_S2097152_n_0_0_1.start (ix1 p) (column w) 0 + scatter_S8388608_S2097152x1_S2097152_n_0_0_1.window (ix1 p) 0).toNat = x.val
      rw [key 0]
      exact e

theorem put_hit (x : S8388608.Idx → F .f32) (u : S2097152.Idx → F .f32) (p : Fin 2097152) (k : Fin 8388608) (h : b + p.val = k.val) :
    put x w u (ix1 k) = u (ix1 p) := by
  unfold put
  refine Routing.scatter_set_hit _ x (column w) u (ix1 k) (u (ix1 p)) (fun j hj => ?_) (ix1 p) ((lands w b hb hw p k).2 h)
  rw [eq_ix1 j] at hj ⊢
  have := (lands w b hb hw (j 0) k).1 hj
  exact congrArg (fun q => u (ix1 q)) (Fin.ext (by omega))

theorem put_miss (x : S8388608.Idx → F .f32) (u : S2097152.Idx → F .f32) (k : Fin 8388608) (h : k.val < b ∨ b + 2097152 ≤ k.val) :
    put x w u (ix1 k) = x (ix1 k) := by
  unfold put
  refine Routing.scatter_set_miss _ x (column w) u (ix1 k) fun j hj => ?_
  rw [eq_ix1 j] at hj
  have := (lands w b hb hw (j 0) k).1 hj
  have hj0 : (j 0).val < 2097152 := (j 0).isLt
  omega

end Ops

/-- An entry of the gate, at any position. -/
theorem entry_at (o : Fin 2 → Nat) (h : S2x2.Slices o S1x1) (y : S2x2.Idx → F .f32) (i : S2097152.Idx) (k : S2x2.Idx) (hk : ∀ a, (k a).val = o a) :
    entry o h y i = y k := by
  show y _ = y k
  refine congrArg y (funext fun a => Fin.ext ?_)
  rw [hk a]
  show o a + (_ : Fin (S1x1.size _)).val = o a
  have : ∀ (a : Fin 2) (v : Fin (S1x1.size a)), v.val = 0 := fun a v => by
    have hv := v.isLt
    match a with
    | ⟨0, _⟩ => exact Nat.lt_one_iff.1 hv
    | ⟨1, _⟩ => exact Nat.lt_one_iff.1 hv
  rw [this]
  rfl

/-! ## The reference's elements -/

variable (x : S8388608.Idx → F .f32) (y : S2x2.Idx → F .f32)

theorem outR_low (k : Fin 8388608) (h : k.val < 4194304) : outR x y (ix1 k) = x (ix1 k) := by
  unfold outR
  rw [put_miss idx1 6291456 (by decide) idx1_at _ _ k (by omega), put_miss idx0 4194304 (by decide) idx0_at _ _ k (by omega)]

theorem outR_mid (p : Fin 2097152) (k k' : Fin 8388608) (hk : 4194304 + p.val = k.val) (hk' : 6291456 + p.val = k'.val) (u0 u1 : S2x2.Idx)
    (h0 : ∀ a, (u0 a).val = (![0, 0] : Fin 2 → Nat) a) (h1 : ∀ a, (u1 a).val = (![0, 1] : Fin 2 → Nat) a) :
    outR x y (ix1 k) = FloatOps.addf (FloatOps.mulf (y u0) (x (ix1 k))) (FloatOps.mulf (y u1) (x (ix1 k'))) := by
  have hp := p.isLt
  unfold outR
  rw [put_miss idx1 6291456 (by decide) idx1_at _ _ k (by omega), put_hit idx0 4194304 (by decide) idx0_at _ _ p k hk]
  show FloatOps.addf (FloatOps.mulf (entry ![0, 0] slices_S2x2_S1x1_0_0 y (ix1 p)) (taken x idx0 (ix1 p)))
    (FloatOps.mulf (entry ![0, 1] slices_S2x2_S1x1_0_1 y (ix1 p)) (taken x idx1 (ix1 p))) = _
  rw [entry_at _ _ y _ u0 h0, entry_at _ _ y _ u1 h1, taken_at idx0 4194304 (by decide) idx0_at x p (by omega), taken_at idx1 6291456 (by decide) idx1_at x p (by omega),
    show (⟨4194304 + p.val, by omega⟩ : Fin 8388608) = k from Fin.ext hk, show (⟨6291456 + p.val, by omega⟩ : Fin 8388608) = k' from Fin.ext hk']

theorem outR_high (p : Fin 2097152) (k k' : Fin 8388608) (hk : 4194304 + p.val = k.val) (hk' : 6291456 + p.val = k'.val) (u0 u1 : S2x2.Idx)
    (h0 : ∀ a, (u0 a).val = (![1, 0] : Fin 2 → Nat) a) (h1 : ∀ a, (u1 a).val = (![1, 1] : Fin 2 → Nat) a) :
    outR x y (ix1 k') = FloatOps.addf (FloatOps.mulf (y u0) (x (ix1 k))) (FloatOps.mulf (y u1) (x (ix1 k'))) := by
  have hp := p.isLt
  unfold outR
  rw [put_hit idx1 6291456 (by decide) idx1_at _ _ p k' hk']
  show FloatOps.addf (FloatOps.mulf (entry ![1, 0] slices_S2x2_S1x1_1_0 y (ix1 p)) (taken x idx0 (ix1 p)))
    (FloatOps.mulf (entry ![1, 1] slices_S2x2_S1x1_1_1 y (ix1 p)) (taken x idx1 (ix1 p))) = _
  rw [entry_at _ _ y _ u0 h0, entry_at _ _ y _ u1 h1, taken_at idx0 4194304 (by decide) idx0_at x p (by omega), taken_at idx1 6291456 (by decide) idx1_at x p (by omega),
    show (⟨4194304 + p.val, by omega⟩ : Fin 8388608) = k from Fin.ext hk, show (⟨6291456 + p.val, by omega⟩ : Fin 8388608) = k' from Fin.ext hk']

end Cert.Proof.Ref
-- ==== Proof.Equation.lean ====
/-
  The kernel's result and the reference's are one array: the table of coefficients holds the gate's entries, and the two
  quarters are the same two combinations.
-/
module

public import proofs.«01_k».proof.Proof.Run
public import proofs.«01_k».proof.Proof.RefValue

@[expose] public section

noncomputable section

namespace Cert.Proof.Gate

open Cert.KernelIdeal Cert.KernelIdeal.Gen

open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable [FloatOps F]

/-! ## The table of coefficients -/

/-- The gate's entry in row `n` of the table: each of the four entries fills a row. -/
def gateIx (n : Fin 4) : S2x2.Idx := fun | 0 => ⟨n.val / 2, Nat.div_lt_of_lt_mul n.isLt⟩ | 1 => ⟨n.val % 2, Nat.mod_lt _ (by decide)⟩

/-- The table the four operations make of the gate `y`. -/
def table (y : S2x2.Idx → F .f32) : S4x16.Idx → F .f32 :=
  shapeCast S4x16 (broadcastInDim S1x4x16x1 ![0, 1, 2, 3] bcast_S1x4x1x1_S1x4x16x1_0_1_2_3
    (shapeCast S1x4x1x1 (shapeCast S4x1 y shapeCasts_S2x2_S4x1) shapeCasts_S4x1_S1x4x1x1)) shapeCasts_S1x4x16x1_S4x16

theorem coef_eq (m : (ℓ : Loc nD τ sig) → Buf (Elt F) ℓ) (d : Dev nD) : coef m d = table (m (yLoc d)) := by
  unfold coef V4
  refine (StableHlo.reshape_result _ _ _ _ _ _ _).trans ?_
  rw [show (op2 (F := F)).result _ (devR main_v2) = _ from StableHlo.unary_result _ _ _ _ _ _,
    show (op1 (F := F)).result _ (devR main_v1) = _ from StableHlo.reshape_result _ _ _ _ _ _ _,
    show (op0 (F := F)).result _ (devR main_v0) = _ from StableHlo.reshape_result _ _ _ _ _ _ _]
  rfl

theorem table_at (y : S2x2.Idx → F .f32) (n : Fin 4) (l : Fin 16) : table y (fun | 0 => n | 1 => l) = y (gateIx n) := by
  have hn := n.isLt
  unfold table
  rw [shapeCast_apply (s := S1x4x16x1) _ _ _ (fun | 0 => (0 : Fin 1) | 1 => n | 2 => l | 3 => (0 : Fin 1)) (by
    rw [Shape.rowMajor_val_four, Shape.rowMajor_val_two]
    show ((0 * 4 + n.val) * 16 + l.val) * 1 + 0 = n.val * 16 + l.val
    omega)]
  have e : ∀ f : S1x4x1x1.Idx → F .f32, broadcastInDim S1x4x16x1 ![0, 1, 2, 3] bcast_S1x4x1x1_S1x4x16x1_0_1_2_3 f (fun | 0 => (0 : Fin 1) | 1 => n | 2 => l | 3 => (0 : Fin 1))
      = f (fun | 0 => (0 : Fin 1) | 1 => n | 2 => (0 : Fin 1) | 3 => (0 : Fin 1)) := fun f =>
    congrArg f (funext fun a => match a with | 0 => rfl | 1 => rfl | 2 => rfl | 3 => rfl)
  rw [e, shapeCast_apply (s := S4x1) _ _ _ (fun | 0 => n | 1 => (0 : Fin 1)) (by
    rw [Shape.rowMajor_val_two, Shape.rowMajor_val_four]
    show n.val * 1 + 0 = ((0 * 4 + n.val) * 1 + 0) * 1 + 0
    omega), shapeCast_apply (s := S2x2) _ _ _ (gateIx n) (by
    rw [Shape.rowMajor_val_two, Shape.rowMajor_val_two]
    show n.val / 2 * 2 + n.val % 2 = n.val * 1 + 0
    omega)]

theorem urow_table (y : S2x2.Idx → F .f32) (n : Fin 4) (l : S16.Idx) : urow n (table y) l = y (gateIx n) := table_at y n (l 0)

/-! ## The two results are the same -/

theorem out_eq (X : S8388608.Idx → F .f32) (y : S2x2.Idx → F .f32) : outV (table y) X = Ref.outR X y := by
  funext i
  obtain ⟨k, rfl⟩ : ∃ k : Fin 8388608, i = ValueIdx.ix1 k := ⟨i 0, ValueIdx.eq_ix1 i⟩
  have hk := k.isLt
  have hix : ∀ (n : Nat) (h : n < 8388608), ix n h = ValueIdx.ix1 (⟨n, h⟩ : Fin 8388608) := fun n h => funext fun a => match a with | ⟨0, _⟩ => rfl
  have hg : ∀ (n : Fin 4) (o : Fin 2 → Nat), o 0 = n.val / 2 → o 1 = n.val % 2 → ∀ a, (gateIx n a).val = o a := fun n o h0 h1 a =>
    match a with | ⟨0, _⟩ => h0.symm | ⟨1, _⟩ => h1.symm
  unfold outV
  simp only [urow_table, hix]
  show (if h : k.val < 6291456 then if k.val < 4194304 then X (ValueIdx.ix1 k) else
      FloatOps.addf (FloatOps.mulf (y (gateIx 0)) (X (ValueIdx.ix1 k))) (FloatOps.mulf (y (gateIx 1)) (X (ValueIdx.ix1 ⟨k.val + 2097152, _⟩)))
    else FloatOps.addf (FloatOps.mulf (y (gateIx 2)) (X (ValueIdx.ix1 ⟨k.val - 2097152, _⟩))) (FloatOps.mulf (y (gateIx 3)) (X (ValueIdx.ix1 k)))) = _
  split
  · split
    · exact (Ref.outR_low X y k (by assumption)).symm
    · exact (Ref.outR_mid X y ⟨k.val - 4194304, by omega⟩ k ⟨k.val + 2097152, by omega⟩ (show 4194304 + (k.val - 4194304) = k.val by omega)
        (show 6291456 + (k.val - 4194304) = k.val + 2097152 by omega) (gateIx 0) (gateIx 1) (hg 0 _ rfl rfl) (hg 1 _ rfl rfl)).symm
  · exact (Ref.outR_high X y ⟨k.val - 6291456, by omega⟩ ⟨k.val - 2097152, by omega⟩ k (show 4194304 + (k.val - 6291456) = k.val - 2097152 by omega)
        (show 6291456 + (k.val - 6291456) = k.val by omega) (gateIx 2) (gateIx 3) (hg 2 _ rfl rfl) (hg 3 _ rfl rfl)).symm

/-- What the call leaves is what the reference computes from the same arguments. -/
theorem outM_eq (m : (ℓ : Loc nD τ sig) → Buf (Elt F) ℓ) (d : Dev nD) : outM m d = Ref.outR (m (xLoc d)) (m (yLoc d)) := by
  unfold outM
  rw [coef_eq]
  exact out_eq _ _

end Cert.Proof.Gate
-- ==== Proof.lean ====
/-
  The proof of the five claims: the three programs' runs end with their arguments unchanged and every semaphore at zero, the
  kernel and its form over the reals are the same text, and over the reals the kernel's result is the reference's.
-/
module

public import proofs.«01_k».proof.Proof.Equation
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel's frame. Its text is the one the run is proved for, taken at floats of bits. -/
theorem frame_kernel : Cert.quiescent_Kernel := fun m ρ _ =>
  (θ_run Cert.KernelIdeal.defs _ _).mono (fun _ h => ⟨fun c => (h.1 c).2, h.2⟩) (Gate.run_main (F := Bits) m ρ)

theorem frame_kernelIdeal : Cert.quiescent_KernelIdeal := fun m ρ _ =>
  (θ_run Cert.KernelIdeal.defs _ _).mono (fun _ h => ⟨fun c => (h.1 c).2, h.2⟩) (Gate.run_main (F := Ideal) m ρ)

/-- The reference has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs end with the reference's array of the arguments. -/
theorem value : Cert.algebraic_KernelIdeal_ReferenceIdeal := fun m ρ m' ρ' _ hargs =>
  ⟨fun c => Gate.outM m c,
    (θ_run Cert.KernelIdeal.defs _ _).mono (fun _ h c => h.1 c) (Gate.run_main (F := Ideal) m ρ),
    (θ_run Cert.ReferenceIdeal.defs _ _).mono (fun _ h c => ⟨(h c).1.trans ((Ref.res_eq m' c).trans (by
        rw [(hargs c).1, (hargs c).2]; exact (Gate.outM_eq m c).symm)), (h c).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
